-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![8192, 8192]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.blockN ⟨2, ![512, 8192]⟩ ⟨2, ![2048, 8192]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S_ : Shape := ⟨0, ![]⟩
abbrev S512x8192 : Shape := ⟨2, ![512, 8192]⟩
abbrev S3x4x512x512 : Shape := ⟨4, ![3, 4, 512, 512]⟩
abbrev S4x512x512 : Shape := ⟨3, ![4, 512, 512]⟩
abbrev S3x4 : Shape := ⟨2, ![3, 4]⟩
abbrev S1x1 : Shape := ⟨2, ![1, 1]⟩
abbrev S1x1x512x512 : Shape := ⟨4, ![1, 1, 512, 512]⟩
abbrev S512x512 : Shape := ⟨2, ![512, 512]⟩
abbrev S1x512x512 : Shape := ⟨3, ![1, 512, 512]⟩

abbrev nBuf : Space → Nat
  | .hbm => 28
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2048x2048, .f32⟩
  | .hbm, ⟨26, _⟩ => ⟨S2048x2048, .f32⟩
  | .hbm, ⟨27, _⟩ => ⟨S512x8192, .f32⟩
  | .local _ .vmem, ⟨0, _⟩ => ⟨S2048x2048, .f32⟩
  | .local _ .vmem, ⟨1, _⟩ => ⟨S512x8192, .f32⟩
  | .local _ .vmem, ⟨2, _⟩ => ⟨S3x4x512x512, .f32⟩
  | .local _ .vmem, ⟨3, _⟩ => ⟨S4x512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 2 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_24 : BitVec 32 := 1#32
  let v42 : BitVec 32 := Scalar.muli v21 c1_i32_24
  let v43 : BitVec 32 := Scalar.addi v41 v42
  v43.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v44 : BitVec 32 := Scalar.muli v2 c8_i32_26
  let v45 : BitVec 32 := Scalar.addi c0_i32_27 v44
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v46 : BitVec 32 := Scalar.muli v5 c4_i32_28
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v22 : BitVec 32 := Scalar.subi v8 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_29 : BitVec 32 := 1#32
  let v48 : BitVec 32 := Scalar.muli v32 c1_i32_29
  let v49 : BitVec 32 := Scalar.addi v47 v48
  v49.toNat
def k0_dev3 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v50 : BitVec 32 := Scalar.muli v2 c8_i32_31
  let v51 : BitVec 32 := Scalar.addi c0_i32_32 v50
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_16 v5
  let c4_i32_33 : BitVec 32 := 4#32
  let v52 : BitVec 32 := Scalar.muli v33 c4_i32_33
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v54 : BitVec 32 := Scalar.muli v8 c1_i32_34
  let v55 : BitVec 32 := Scalar.addi v53 v54
  v55.toNat
def k0_dev4 (d0 : Dev nD) : Nat :=
  let c0_i32_37 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let c8_i32_36 : BitVec 32 := 8#32
  let v56 : BitVec 32 := Scalar.muli v34 c8_i32_36
  let v57 : BitVec 32 := Scalar.addi c0_i32_37 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v58 : BitVec 32 := Scalar.muli v5 c4_i32_38
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v60 : BitVec 32 := Scalar.muli v8 c1_i32_39
  let v61 : BitVec 32 := Scalar.addi v59 v60
  v61.toNat
def k0_dev5 (d0 : Dev nD) : Nat :=
  let c0_i32_42 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let c8_i32_41 : BitVec 32 := 8#32
  let v62 : BitVec 32 := Scalar.muli v35 c8_i32_41
  let v63 : BitVec 32 := Scalar.addi c0_i32_42 v62
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c4_i32_43 : BitVec 32 := 4#32
  let v64 : BitVec 32 := Scalar.muli v36 c4_i32_43
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v66 : BitVec 32 := Scalar.muli v8 c1_i32_44
  let v67 : BitVec 32 := Scalar.addi v65 v66
  v67.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v68 : BitVec 32 := Scalar.subi v8 c1_i32_45
  let c0_i32_46 : BitVec 32 := 0#32
  let v69 : BitVec 32 := Scalar.subi v68 c0_i32_46
  let c4_i32_47 : BitVec 32 := 4#32
  let c0_i32_48 : BitVec 32 := 0#32
  let v70 : BitVec 1 := Scalar.cmpi .eq c4_i32_47 c0_i32_48
  let c1_i32_49 : BitVec 32 := 1#32
  let v71 : BitVec 32 := Scalar.select v70 c1_i32_49 c4_i32_47
  let v72 : BitVec 32 := Scalar.remsi v69 v71
  let c0_i32_51 : BitVec 32 := 0#32
  let v74 : BitVec 1 := Scalar.cmpi .slt v72 c0_i32_51
  let c0_i32_52 : BitVec 32 := 0#32
  let v75 : BitVec 1 := Scalar.cmpi .slt v71 c0_i32_52
  let v76 : BitVec 1 := Scalar.xori v74 v75
  let c0_i32_50 : BitVec 32 := 0#32
  let v73 : BitVec 1 := Scalar.cmpi .ne v72 c0_i32_50
  let v77 : BitVec 1 := Scalar.andi v76 v73
  let v78 : BitVec 32 := Scalar.addi v72 v71
  let v79 : BitVec 32 := Scalar.select v77 v78 v72
  let c512_i32 : BitVec 32 := 512#32
  let v80 : BitVec 32 := Scalar.muli v79 c512_i32
  let c0_i32_65 : BitVec 32 := 0#32
  ![v80.toNat, 0]
def k0_dev6 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v81 : BitVec 32 := Scalar.muli v2 c8_i32_59
  let v82 : BitVec 32 := Scalar.addi c0_i32_60 v81
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v83 : BitVec 32 := Scalar.muli v5 c4_i32_61
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_62 : BitVec 32 := 1#32
  let v85 : BitVec 32 := Scalar.muli v21 c1_i32_62
  let v86 : BitVec 32 := Scalar.addi v84 v85
  v86.toNat
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v94 : BitVec 32 := Scalar.subi v8 c1_i32_66
  let c0_i32_67 : BitVec 32 := 0#32
  let v95 : BitVec 32 := Scalar.subi v94 c0_i32_67
  let c4_i32_68 : BitVec 32 := 4#32
  let c0_i32_69 : BitVec 32 := 0#32
  let v96 : BitVec 1 := Scalar.cmpi .eq c4_i32_68 c0_i32_69
  let c1_i32_70 : BitVec 32 := 1#32
  let v97 : BitVec 32 := Scalar.select v96 c1_i32_70 c4_i32_68
  let v98 : BitVec 32 := Scalar.remsi v95 v97
  let c0_i32_72 : BitVec 32 := 0#32
  let v100 : BitVec 1 := Scalar.cmpi .slt v98 c0_i32_72
  let c0_i32_73 : BitVec 32 := 0#32
  let v101 : BitVec 1 := Scalar.cmpi .slt v97 c0_i32_73
  let v102 : BitVec 1 := Scalar.xori v100 v101
  let c0_i32_71 : BitVec 32 := 0#32
  let v99 : BitVec 1 := Scalar.cmpi .ne v98 c0_i32_71
  let v103 : BitVec 1 := Scalar.andi v102 v99
  let v104 : BitVec 32 := Scalar.addi v98 v97
  let v105 : BitVec 32 := Scalar.select v103 v104 v98
  let c512_i32_74 : BitVec 32 := 512#32
  let v106 : BitVec 32 := Scalar.muli v105 c512_i32_74
  let c512_i32_87 : BitVec 32 := 512#32
  ![v106.toNat, 512]
def k0_dev7 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v107 : BitVec 32 := Scalar.muli v2 c8_i32_81
  let v108 : BitVec 32 := Scalar.addi c0_i32_82 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v109 : BitVec 32 := Scalar.muli v5 c4_i32_83
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_84 : BitVec 32 := 1#32
  let v111 : BitVec 32 := Scalar.muli v21 c1_i32_84
  let v112 : BitVec 32 := Scalar.addi v110 v111
  v112.toNat
def k0_off3 (d0 : Dev nD) (c1_i32_102 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v131 : BitVec 32 := Scalar.subi v8 c1_i32_101
  let v132 : BitVec 32 := Scalar.subi v131 c1_i32_102
  let c4_i32_103 : BitVec 32 := 4#32
  let c0_i32_104 : BitVec 32 := 0#32
  let v133 : BitVec 1 := Scalar.cmpi .eq c4_i32_103 c0_i32_104
  let c1_i32_105 : BitVec 32 := 1#32
  let v134 : BitVec 32 := Scalar.select v133 c1_i32_105 c4_i32_103
  let v135 : BitVec 32 := Scalar.remsi v132 v134
  let c0_i32_107 : BitVec 32 := 0#32
  let v137 : BitVec 1 := Scalar.cmpi .slt v135 c0_i32_107
  let c0_i32_108 : BitVec 32 := 0#32
  let v138 : BitVec 1 := Scalar.cmpi .slt v134 c0_i32_108
  let v139 : BitVec 1 := Scalar.xori v137 v138
  let c0_i32_106 : BitVec 32 := 0#32
  let v136 : BitVec 1 := Scalar.cmpi .ne v135 c0_i32_106
  let v140 : BitVec 1 := Scalar.andi v139 v136
  let v141 : BitVec 32 := Scalar.addi v135 v134
  let v142 : BitVec 32 := Scalar.select v140 v141 v135
  let c512_i32_109 : BitVec 32 := 512#32
  let v143 : BitVec 32 := Scalar.muli v142 c512_i32_109
  let v146 : Index := Scalar.indexCast v143
  let c0_113 : Index := 0#32
  ![v146.toNat, 0]
def k0_dev8 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_124 : BitVec 32 := 8#32
  let v153 : BitVec 32 := Scalar.muli v2 c8_i32_124
  let v154 : BitVec 32 := Scalar.addi c0_i32_125 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v155 : BitVec 32 := Scalar.muli v5 c4_i32_126
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_127 : BitVec 32 := 1#32
  let v157 : BitVec 32 := Scalar.muli v21 c1_i32_127
  let v158 : BitVec 32 := Scalar.addi v156 v157
  v158.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v167 : BitVec 32 := Scalar.subi v8 c1_i32_132
  let c0_i32_133 : BitVec 32 := 0#32
  let v168 : BitVec 32 := Scalar.subi v167 c0_i32_133
  let c4_i32_134 : BitVec 32 := 4#32
  let c0_i32_135 : BitVec 32 := 0#32
  let v169 : BitVec 1 := Scalar.cmpi .eq c4_i32_134 c0_i32_135
  let c1_i32_136 : BitVec 32 := 1#32
  let v170 : BitVec 32 := Scalar.select v169 c1_i32_136 c4_i32_134
  let v171 : BitVec 32 := Scalar.remsi v168 v170
  let c0_i32_138 : BitVec 32 := 0#32
  let v173 : BitVec 1 := Scalar.cmpi .slt v171 c0_i32_138
  let c0_i32_139 : BitVec 32 := 0#32
  let v174 : BitVec 1 := Scalar.cmpi .slt v170 c0_i32_139
  let v175 : BitVec 1 := Scalar.xori v173 v174
  let c0_i32_137 : BitVec 32 := 0#32
  let v172 : BitVec 1 := Scalar.cmpi .ne v171 c0_i32_137
  let v176 : BitVec 1 := Scalar.andi v175 v172
  let v177 : BitVec 32 := Scalar.addi v171 v170
  let v178 : BitVec 32 := Scalar.select v176 v177 v171
  let c512_i32_140 : BitVec 32 := 512#32
  let v179 : BitVec 32 := Scalar.muli v178 c512_i32_140
  let c1024_i32 : BitVec 32 := 1024#32
  ![v179.toNat, 1024]
def k0_dev9 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v180 : BitVec 32 := Scalar.muli v2 c8_i32_147
  let v181 : BitVec 32 := Scalar.addi c0_i32_148 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v182 : BitVec 32 := Scalar.muli v5 c4_i32_149
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_150 : BitVec 32 := 1#32
  let v184 : BitVec 32 := Scalar.muli v21 c1_i32_150
  let v185 : BitVec 32 := Scalar.addi v183 v184
  v185.toNat
def k0_dev10 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v233 : BitVec 32 := Scalar.muli v2 c8_i32_203
  let v234 : BitVec 32 := Scalar.addi c0_i32_204 v233
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v235 : BitVec 32 := Scalar.muli v5 c4_i32_205
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_206 : BitVec 32 := 1#32
  let v237 : BitVec 32 := Scalar.muli v21 c1_i32_206
  let v238 : BitVec 32 := Scalar.addi v236 v237
  v238.toNat
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v247 : BitVec 32 := Scalar.subi v8 c1_i32_211
  let c0_i32_212 : BitVec 32 := 0#32
  let v248 : BitVec 32 := Scalar.subi v247 c0_i32_212
  let c4_i32_213 : BitVec 32 := 4#32
  let c0_i32_214 : BitVec 32 := 0#32
  let v249 : BitVec 1 := Scalar.cmpi .eq c4_i32_213 c0_i32_214
  let c1_i32_215 : BitVec 32 := 1#32
  let v250 : BitVec 32 := Scalar.select v249 c1_i32_215 c4_i32_213
  let v251 : BitVec 32 := Scalar.remsi v248 v250
  let c0_i32_217 : BitVec 32 := 0#32
  let v253 : BitVec 1 := Scalar.cmpi .slt v251 c0_i32_217
  let c0_i32_218 : BitVec 32 := 0#32
  let v254 : BitVec 1 := Scalar.cmpi .slt v250 c0_i32_218
  let v255 : BitVec 1 := Scalar.xori v253 v254
  let c0_i32_216 : BitVec 32 := 0#32
  let v252 : BitVec 1 := Scalar.cmpi .ne v251 c0_i32_216
  let v256 : BitVec 1 := Scalar.andi v255 v252
  let v257 : BitVec 32 := Scalar.addi v251 v250
  let v258 : BitVec 32 := Scalar.select v256 v257 v251
  let c512_i32_219 : BitVec 32 := 512#32
  let v259 : BitVec 32 := Scalar.muli v258 c512_i32_219
  let c1536_i32 : BitVec 32 := 1536#32
  ![v259.toNat, 1536]
def k0_dev11 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v260 : BitVec 32 := Scalar.muli v2 c8_i32_225
  let v261 : BitVec 32 := Scalar.addi c0_i32_226 v260
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v262 : BitVec 32 := Scalar.muli v5 c4_i32_227
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_228 : BitVec 32 := 1#32
  let v264 : BitVec 32 := Scalar.muli v21 c1_i32_228
  let v265 : BitVec 32 := Scalar.addi v263 v264
  v265.toNat
def k0_off6 (d0 : Dev nD) (c1_i32_245 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v284 : BitVec 32 := Scalar.subi v8 c1_i32_244
  let v285 : BitVec 32 := Scalar.subi v284 c1_i32_245
  let c4_i32_246 : BitVec 32 := 4#32
  let c0_i32_247 : BitVec 32 := 0#32
  let v286 : BitVec 1 := Scalar.cmpi .eq c4_i32_246 c0_i32_247
  let c1_i32_248 : BitVec 32 := 1#32
  let v287 : BitVec 32 := Scalar.select v286 c1_i32_248 c4_i32_246
  let v288 : BitVec 32 := Scalar.remsi v285 v287
  let c0_i32_250 : BitVec 32 := 0#32
  let v290 : BitVec 1 := Scalar.cmpi .slt v288 c0_i32_250
  let c0_i32_251 : BitVec 32 := 0#32
  let v291 : BitVec 1 := Scalar.cmpi .slt v287 c0_i32_251
  let v292 : BitVec 1 := Scalar.xori v290 v291
  let c0_i32_249 : BitVec 32 := 0#32
  let v289 : BitVec 1 := Scalar.cmpi .ne v288 c0_i32_249
  let v293 : BitVec 1 := Scalar.andi v292 v289
  let v294 : BitVec 32 := Scalar.addi v288 v287
  let v295 : BitVec 32 := Scalar.select v293 v294 v288
  let c512_i32_252 : BitVec 32 := 512#32
  let v296 : BitVec 32 := Scalar.muli v295 c512_i32_252
  let v299 : Index := Scalar.indexCast v296
  let c512 : Index := 512#32
  ![v299.toNat, 512]
def k0_dev12 (d0 : Dev nD) : Nat :=
  let c0_i32_268 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_267 : BitVec 32 := 8#32
  let v306 : BitVec 32 := Scalar.muli v2 c8_i32_267
  let v307 : BitVec 32 := Scalar.addi c0_i32_268 v306
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_269 : BitVec 32 := 4#32
  let v308 : BitVec 32 := Scalar.muli v5 c4_i32_269
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_270 : BitVec 32 := 1#32
  let v310 : BitVec 32 := Scalar.muli v21 c1_i32_270
  let v311 : BitVec 32 := Scalar.addi v309 v310
  v311.toNat
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_294 : BitVec 32 := 512#32
  let v336 : BitVec 32 := Scalar.muli v8 c512_i32_294
  let v337 : Index := Scalar.indexCast v336
  let c0_295 : Index := 0#32
  ![v337.toNat, 0]
def k0_off8 (d0 : Dev nD) (c0_i32_290 : BitVec 32) : Fin 2 → Nat :=
  let c0_296 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v332 : BitVec 32 := Scalar.muli v10 c2048_i32
  let v333 : BitVec 32 := Scalar.addi v332 c0_i32_290
  let v341 : Index := Scalar.indexCast v333
  ![0, v341.toNat]
def k0_off9 (d0 : Dev nD) (c0_i32_290 : BitVec 32) : Fin 2 → Nat :=
  let c0_i32_305 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2048_i32 : BitVec 32 := 2048#32
  let v332 : BitVec 32 := Scalar.muli v10 c2048_i32
  let v333 : BitVec 32 := Scalar.addi v332 c0_i32_290
  ![0, v333.toNat]
def k0_dev13 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v343 : BitVec 32 := Scalar.muli v2 c8_i32_301
  let v344 : BitVec 32 := Scalar.addi c0_i32_302 v343
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_16 v5
  let c4_i32_303 : BitVec 32 := 4#32
  let v345 : BitVec 32 := Scalar.muli v33 c4_i32_303
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v347 : BitVec 32 := Scalar.muli v8 c1_i32_304
  let v348 : BitVec 32 := Scalar.addi v346 v347
  v348.toNat
def k0_dev14 (d0 : Dev nD) : Nat :=
  let c0_i32_312 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let c8_i32_311 : BitVec 32 := 8#32
  let v355 : BitVec 32 := Scalar.muli v34 c8_i32_311
  let v356 : BitVec 32 := Scalar.addi c0_i32_312 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v357 : BitVec 32 := Scalar.muli v5 c4_i32_313
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v359 : BitVec 32 := Scalar.muli v8 c1_i32_314
  let v360 : BitVec 32 := Scalar.addi v358 v359
  v360.toNat
def k0_dev15 (d0 : Dev nD) : Nat :=
  let c0_i32_322 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let c8_i32_321 : BitVec 32 := 8#32
  let v367 : BitVec 32 := Scalar.muli v35 c8_i32_321
  let v368 : BitVec 32 := Scalar.addi c0_i32_322 v367
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c4_i32_323 : BitVec 32 := 4#32
  let v369 : BitVec 32 := Scalar.muli v36 c4_i32_323
  let v370 : BitVec 32 := Scalar.addi v368 v369
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v371 : BitVec 32 := Scalar.muli v8 c1_i32_324
  let v372 : BitVec 32 := Scalar.addi v370 v371
  v372.toNat
def k0_dev16 (d0 : Dev nD) : Nat :=
  let c0_i32_379 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_378 : BitVec 32 := 8#32
  let v419 : BitVec 32 := Scalar.muli v2 c8_i32_378
  let v420 : BitVec 32 := Scalar.addi c0_i32_379 v419
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_380 : BitVec 32 := 4#32
  let v421 : BitVec 32 := Scalar.muli v5 c4_i32_380
  let v422 : BitVec 32 := Scalar.addi v420 v421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_381 : BitVec 32 := 1#32
  let v423 : BitVec 32 := Scalar.muli v21 c1_i32_381
  let v424 : BitVec 32 := Scalar.addi v422 v423
  v424.toNat
def k0_off10 (d0 : Dev nD) (c1_i32_400 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v444 : BitVec 32 := Scalar.subi v8 c1_i32_399
  let v445 : BitVec 32 := Scalar.subi v444 c1_i32_400
  let c4_i32_401 : BitVec 32 := 4#32
  let c0_i32_402 : BitVec 32 := 0#32
  let v446 : BitVec 1 := Scalar.cmpi .eq c4_i32_401 c0_i32_402
  let c1_i32_403 : BitVec 32 := 1#32
  let v447 : BitVec 32 := Scalar.select v446 c1_i32_403 c4_i32_401
  let v448 : BitVec 32 := Scalar.remsi v445 v447
  let c0_i32_405 : BitVec 32 := 0#32
  let v450 : BitVec 1 := Scalar.cmpi .slt v448 c0_i32_405
  let c0_i32_406 : BitVec 32 := 0#32
  let v451 : BitVec 1 := Scalar.cmpi .slt v447 c0_i32_406
  let v452 : BitVec 1 := Scalar.xori v450 v451
  let c0_i32_404 : BitVec 32 := 0#32
  let v449 : BitVec 1 := Scalar.cmpi .ne v448 c0_i32_404
  let v453 : BitVec 1 := Scalar.andi v452 v449
  let v454 : BitVec 32 := Scalar.addi v448 v447
  let v455 : BitVec 32 := Scalar.select v453 v454 v448
  let c512_i32_407 : BitVec 32 := 512#32
  let v456 : BitVec 32 := Scalar.muli v455 c512_i32_407
  let v459 : Index := Scalar.indexCast v456
  let c1024 : Index := 1024#32
  ![v459.toNat, 1024]
def k0_dev17 (d0 : Dev nD) : Nat :=
  let c0_i32_423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_422 : BitVec 32 := 8#32
  let v466 : BitVec 32 := Scalar.muli v2 c8_i32_422
  let v467 : BitVec 32 := Scalar.addi c0_i32_423 v466
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v468 : BitVec 32 := Scalar.muli v5 c4_i32_424
  let v469 : BitVec 32 := Scalar.addi v467 v468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_425 : BitVec 32 := 1#32
  let v470 : BitVec 32 := Scalar.muli v21 c1_i32_425
  let v471 : BitVec 32 := Scalar.addi v469 v470
  v471.toNat
def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_451 : BitVec 32 := 512#32
  let v496 : BitVec 32 := Scalar.muli v8 c512_i32_451
  let v497 : Index := Scalar.indexCast v496
  let c512_452 : Index := 512#32
  ![v497.toNat, 512]
def k0_dev18 (d0 : Dev nD) : Nat :=
  let c0_i32_459 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_458 : BitVec 32 := 8#32
  let v503 : BitVec 32 := Scalar.muli v2 c8_i32_458
  let v504 : BitVec 32 := Scalar.addi c0_i32_459 v503
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_16 v5
  let c4_i32_460 : BitVec 32 := 4#32
  let v505 : BitVec 32 := Scalar.muli v33 c4_i32_460
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_461 : BitVec 32 := 1#32
  let v507 : BitVec 32 := Scalar.muli v8 c1_i32_461
  let v508 : BitVec 32 := Scalar.addi v506 v507
  v508.toNat
def k0_dev19 (d0 : Dev nD) : Nat :=
  let c0_i32_469 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let c8_i32_468 : BitVec 32 := 8#32
  let v515 : BitVec 32 := Scalar.muli v34 c8_i32_468
  let v516 : BitVec 32 := Scalar.addi c0_i32_469 v515
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v517 : BitVec 32 := Scalar.muli v5 c4_i32_470
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v519 : BitVec 32 := Scalar.muli v8 c1_i32_471
  let v520 : BitVec 32 := Scalar.addi v518 v519
  v520.toNat
def k0_dev20 (d0 : Dev nD) : Nat :=
  let c0_i32_479 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let c8_i32_478 : BitVec 32 := 8#32
  let v527 : BitVec 32 := Scalar.muli v35 c8_i32_478
  let v528 : BitVec 32 := Scalar.addi c0_i32_479 v527
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c4_i32_480 : BitVec 32 := 4#32
  let v529 : BitVec 32 := Scalar.muli v36 c4_i32_480
  let v530 : BitVec 32 := Scalar.addi v528 v529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_481 : BitVec 32 := 1#32
  let v531 : BitVec 32 := Scalar.muli v8 c1_i32_481
  let v532 : BitVec 32 := Scalar.addi v530 v531
  v532.toNat
def k0_dev21 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_535 : BitVec 32 := 8#32
  let v579 : BitVec 32 := Scalar.muli v2 c8_i32_535
  let v580 : BitVec 32 := Scalar.addi c0_i32_536 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_537 : BitVec 32 := 4#32
  let v581 : BitVec 32 := Scalar.muli v5 c4_i32_537
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_538 : BitVec 32 := 1#32
  let v583 : BitVec 32 := Scalar.muli v21 c1_i32_538
  let v584 : BitVec 32 := Scalar.addi v582 v583
  v584.toNat
def k0_off12 (d0 : Dev nD) (c1_i32_557 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v604 : BitVec 32 := Scalar.subi v8 c1_i32_556
  let v605 : BitVec 32 := Scalar.subi v604 c1_i32_557
  let c4_i32_558 : BitVec 32 := 4#32
  let c0_i32_559 : BitVec 32 := 0#32
  let v606 : BitVec 1 := Scalar.cmpi .eq c4_i32_558 c0_i32_559
  let c1_i32_560 : BitVec 32 := 1#32
  let v607 : BitVec 32 := Scalar.select v606 c1_i32_560 c4_i32_558
  let v608 : BitVec 32 := Scalar.remsi v605 v607
  let c0_i32_562 : BitVec 32 := 0#32
  let v610 : BitVec 1 := Scalar.cmpi .slt v608 c0_i32_562
  let c0_i32_563 : BitVec 32 := 0#32
  let v611 : BitVec 1 := Scalar.cmpi .slt v607 c0_i32_563
  let v612 : BitVec 1 := Scalar.xori v610 v611
  let c0_i32_561 : BitVec 32 := 0#32
  let v609 : BitVec 1 := Scalar.cmpi .ne v608 c0_i32_561
  let v613 : BitVec 1 := Scalar.andi v612 v609
  let v614 : BitVec 32 := Scalar.addi v608 v607
  let v615 : BitVec 32 := Scalar.select v613 v614 v608
  let c512_i32_564 : BitVec 32 := 512#32
  let v616 : BitVec 32 := Scalar.muli v615 c512_i32_564
  let v619 : Index := Scalar.indexCast v616
  let c1536 : Index := 1536#32
  ![v619.toNat, 1536]
def k0_dev22 (d0 : Dev nD) : Nat :=
  let c0_i32_579 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_578 : BitVec 32 := 8#32
  let v626 : BitVec 32 := Scalar.muli v2 c8_i32_578
  let v627 : BitVec 32 := Scalar.addi c0_i32_579 v626
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_580 : BitVec 32 := 4#32
  let v628 : BitVec 32 := Scalar.muli v5 c4_i32_580
  let v629 : BitVec 32 := Scalar.addi v627 v628
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_581 : BitVec 32 := 1#32
  let v630 : BitVec 32 := Scalar.muli v21 c1_i32_581
  let v631 : BitVec 32 := Scalar.addi v629 v630
  v631.toNat
def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_607 : BitVec 32 := 512#32
  let v656 : BitVec 32 := Scalar.muli v8 c512_i32_607
  let v657 : Index := Scalar.indexCast v656
  let c1024_608 : Index := 1024#32
  ![v657.toNat, 1024]
def k0_dev23 (d0 : Dev nD) : Nat :=
  let c0_i32_615 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_614 : BitVec 32 := 8#32
  let v663 : BitVec 32 := Scalar.muli v2 c8_i32_614
  let v664 : BitVec 32 := Scalar.addi c0_i32_615 v663
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_16 v5
  let c4_i32_616 : BitVec 32 := 4#32
  let v665 : BitVec 32 := Scalar.muli v33 c4_i32_616
  let v666 : BitVec 32 := Scalar.addi v664 v665
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_617 : BitVec 32 := 1#32
  let v667 : BitVec 32 := Scalar.muli v8 c1_i32_617
  let v668 : BitVec 32 := Scalar.addi v666 v667
  v668.toNat
def k0_dev24 (d0 : Dev nD) : Nat :=
  let c0_i32_625 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let c8_i32_624 : BitVec 32 := 8#32
  let v675 : BitVec 32 := Scalar.muli v34 c8_i32_624
  let v676 : BitVec 32 := Scalar.addi c0_i32_625 v675
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_626 : BitVec 32 := 4#32
  let v677 : BitVec 32 := Scalar.muli v5 c4_i32_626
  let v678 : BitVec 32 := Scalar.addi v676 v677
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_627 : BitVec 32 := 1#32
  let v679 : BitVec 32 := Scalar.muli v8 c1_i32_627
  let v680 : BitVec 32 := Scalar.addi v678 v679
  v680.toNat
def k0_dev25 (d0 : Dev nD) : Nat :=
  let c0_i32_635 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let c8_i32_634 : BitVec 32 := 8#32
  let v687 : BitVec 32 := Scalar.muli v35 c8_i32_634
  let v688 : BitVec 32 := Scalar.addi c0_i32_635 v687
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c4_i32_636 : BitVec 32 := 4#32
  let v689 : BitVec 32 := Scalar.muli v36 c4_i32_636
  let v690 : BitVec 32 := Scalar.addi v688 v689
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_637 : BitVec 32 := 1#32
  let v691 : BitVec 32 := Scalar.muli v8 c1_i32_637
  let v692 : BitVec 32 := Scalar.addi v690 v691
  v692.toNat
def k0_dev26 (d0 : Dev nD) : Nat :=
  let c0_i32_692 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_691 : BitVec 32 := 8#32
  let v739 : BitVec 32 := Scalar.muli v2 c8_i32_691
  let v740 : BitVec 32 := Scalar.addi c0_i32_692 v739
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_693 : BitVec 32 := 4#32
  let v741 : BitVec 32 := Scalar.muli v5 c4_i32_693
  let v742 : BitVec 32 := Scalar.addi v740 v741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_694 : BitVec 32 := 1#32
  let v743 : BitVec 32 := Scalar.muli v21 c1_i32_694
  let v744 : BitVec 32 := Scalar.addi v742 v743
  v744.toNat
def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_720 : BitVec 32 := 512#32
  let v769 : BitVec 32 := Scalar.muli v8 c512_i32_720
  let v770 : Index := Scalar.indexCast v769
  let c1536_721 : Index := 1536#32
  ![v770.toNat, 1536]
def k0_dev27 (d0 : Dev nD) : Nat :=
  let c0_i32_728 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_727 : BitVec 32 := 8#32
  let v776 : BitVec 32 := Scalar.muli v2 c8_i32_727
  let v777 : BitVec 32 := Scalar.addi c0_i32_728 v776
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_16 v5
  let c4_i32_729 : BitVec 32 := 4#32
  let v778 : BitVec 32 := Scalar.muli v33 c4_i32_729
  let v779 : BitVec 32 := Scalar.addi v777 v778
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_730 : BitVec 32 := 1#32
  let v780 : BitVec 32 := Scalar.muli v8 c1_i32_730
  let v781 : BitVec 32 := Scalar.addi v779 v780
  v781.toNat
def k0_dev28 (d0 : Dev nD) : Nat :=
  let c0_i32_738 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let c8_i32_737 : BitVec 32 := 8#32
  let v788 : BitVec 32 := Scalar.muli v34 c8_i32_737
  let v789 : BitVec 32 := Scalar.addi c0_i32_738 v788
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_739 : BitVec 32 := 4#32
  let v790 : BitVec 32 := Scalar.muli v5 c4_i32_739
  let v791 : BitVec 32 := Scalar.addi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_740 : BitVec 32 := 1#32
  let v792 : BitVec 32 := Scalar.muli v8 c1_i32_740
  let v793 : BitVec 32 := Scalar.addi v791 v792
  v793.toNat
def k0_dev29 (d0 : Dev nD) : Nat :=
  let c0_i32_748 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let c8_i32_747 : BitVec 32 := 8#32
  let v800 : BitVec 32 := Scalar.muli v35 c8_i32_747
  let v801 : BitVec 32 := Scalar.addi c0_i32_748 v800
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c4_i32_749 : BitVec 32 := 4#32
  let v802 : BitVec 32 := Scalar.muli v36 c4_i32_749
  let v803 : BitVec 32 := Scalar.addi v801 v802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v804 : BitVec 32 := Scalar.muli v8 c1_i32_750
  let v805 : BitVec 32 := Scalar.addi v803 v804
  v805.toNat
def k0_dev30 (d0 : Dev nD) : Nat :=
  let c0_i32_1047_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1046_r0 : BitVec 32 := 8#32
  let v1025_r0 : BitVec 32 := Scalar.muli v2 c8_i32_1046_r0
  let v1026_r0 : BitVec 32 := Scalar.addi c0_i32_1047_r0 v1025_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1048_r0 : BitVec 32 := 4#32
  let v1027_r0 : BitVec 32 := Scalar.muli v5 c4_i32_1048_r0
  let v1028_r0 : BitVec 32 := Scalar.addi v1026_r0 v1027_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_1049_r0 : BitVec 32 := 1#32
  let v1029_r0 : BitVec 32 := Scalar.muli v21 c1_i32_1049_r0
  let v1030_r0 : BitVec 32 := Scalar.addi v1028_r0 v1029_r0
  v1030_r0.toNat
def k0_dev31 (d0 : Dev nD) : Nat :=
  let c0_i32_1052_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1051_r0 : BitVec 32 := 8#32
  let v1031_r0 : BitVec 32 := Scalar.muli v2 c8_i32_1051_r0
  let v1032_r0 : BitVec 32 := Scalar.addi c0_i32_1052_r0 v1031_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1053_r0 : BitVec 32 := 4#32
  let v1033_r0 : BitVec 32 := Scalar.muli v5 c4_i32_1053_r0
  let v1034_r0 : BitVec 32 := Scalar.addi v1032_r0 v1033_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v22 : BitVec 32 := Scalar.subi v8 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_1054_r0 : BitVec 32 := 1#32
  let v1035_r0 : BitVec 32 := Scalar.muli v32 c1_i32_1054_r0
  let v1036_r0 : BitVec 32 := Scalar.addi v1034_r0 v1035_r0
  v1036_r0.toNat
def k0_dev32 (d0 : Dev nD) : Nat :=
  let c0_i32_1057_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1056_r0 : BitVec 32 := 8#32
  let v1037_r0 : BitVec 32 := Scalar.muli v2 c8_i32_1056_r0
  let v1038_r0 : BitVec 32 := Scalar.addi c0_i32_1057_r0 v1037_r0
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_16 v5
  let c4_i32_1058_r0 : BitVec 32 := 4#32
  let v1039_r0 : BitVec 32 := Scalar.muli v33 c4_i32_1058_r0
  let v1040_r0 : BitVec 32 := Scalar.addi v1038_r0 v1039_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1059_r0 : BitVec 32 := 1#32
  let v1041_r0 : BitVec 32 := Scalar.muli v8 c1_i32_1059_r0
  let v1042_r0 : BitVec 32 := Scalar.addi v1040_r0 v1041_r0
  v1042_r0.toNat
def k0_dev33 (d0 : Dev nD) : Nat :=
  let c0_i32_1062_r0 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.subi c1_i32_17 v2
  let c8_i32_1061_r0 : BitVec 32 := 8#32
  let v1043_r0 : BitVec 32 := Scalar.muli v34 c8_i32_1061_r0
  let v1044_r0 : BitVec 32 := Scalar.addi c0_i32_1062_r0 v1043_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1063_r0 : BitVec 32 := 4#32
  let v1045_r0 : BitVec 32 := Scalar.muli v5 c4_i32_1063_r0
  let v1046_r0 : BitVec 32 := Scalar.addi v1044_r0 v1045_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1064_r0 : BitVec 32 := 1#32
  let v1047_r0 : BitVec 32 := Scalar.muli v8 c1_i32_1064_r0
  let v1048_r0 : BitVec 32 := Scalar.addi v1046_r0 v1047_r0
  v1048_r0.toNat
def k0_dev34 (d0 : Dev nD) : Nat :=
  let c0_i32_1067_r0 : BitVec 32 := 0#32
  let c1_i32_18 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_18 v2
  let c8_i32_1066_r0 : BitVec 32 := 8#32
  let v1049_r0 : BitVec 32 := Scalar.muli v35 c8_i32_1066_r0
  let v1050_r0 : BitVec 32 := Scalar.addi c0_i32_1067_r0 v1049_r0
  let c1_i32_19 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.subi c1_i32_19 v5
  let c4_i32_1068_r0 : BitVec 32 := 4#32
  let v1051_r0 : BitVec 32 := Scalar.muli v36 c4_i32_1068_r0
  let v1052_r0 : BitVec 32 := Scalar.addi v1050_r0 v1051_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1069_r0 : BitVec 32 := 1#32
  let v1053_r0 : BitVec 32 := Scalar.muli v8 c1_i32_1069_r0
  let v1054_r0 : BitVec 32 := Scalar.addi v1052_r0 v1053_r0
  v1054_r0.toNat
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S2048x8192, .f32⟩
  | .hbm, ⟨3, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Geom.lean ====
/-
  The geometry of the ring reduce-scatter with an all-gather behind it: the neighbours of a device, the pieces of the
  four buffers the kernel cuts, and what each buffer holds at each moment, as a function of the whole buffer.
-/
module

public import proofs.«01_k».proof.Proof.Gen.KernelIdeal
public import proofs.«01_k».proof.Proof.Gen.KernelIdeal.Skeleton
public import Idealize.ShloMosaic.Lib.ValueLayout
public import Idealize.ShloMosaic.Lib.Tactic

@[expose] public section

noncomputable section

namespace Cert.KernelIdeal.Rs

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Neighbours -/

/-- Neighbour `k` of device `d`: the next and the previous device of its ring, then the three devices of its plane. -/
def nb (k : Fin 5) (d : Dev nD) : Dev nD :=
  ⟨(![d.val - d.val % 4 + (d.val % 4 + 1) % 4, d.val - d.val % 4 + (d.val % 4 + 3) % 4,
      d.val ^^^ 4, d.val ^^^ 8, d.val ^^^ 12] : Fin 5 → ℕ) k, by revert k d; decide⟩

/-- Neighbour `inv5 k` of a device's neighbour `k` is the device. -/
def inv5 : Fin 5 → Fin 5 := ![1, 0, 2, 3, 4]

/-- Going to a neighbour and then by the opposite step comes back. -/
theorem nb_inv (k : Fin 5) (d : Dev nD) : nb (inv5 k) (nb k d) = d := by revert k d; decide
/-- Going by the opposite step and then to the neighbour comes back. -/
theorem nb_inv' (k : Fin 5) (d : Dev nD) : nb k (nb (inv5 k) d) = d := by revert k d; decide
/-- The opposite of the opposite step is the step. -/
theorem inv5_inv5 (k : Fin 5) : inv5 (inv5 k) = k := by revert k; decide

/-- The next device of the ring, and the previous one. -/
abbrev zn (d : Dev nD) : Dev nD := nb 0 d
/-- The previous device of the ring. -/
abbrev zp (d : Dev nD) : Dev nD := nb 1 d
/-- The three other devices of the plane. -/
def pk : Fin 3 → Fin 5 := ![2, 3, 4]
/-- The three devices of the same plane. -/
abbrev peer (j : Fin 3) (d : Dev nD) : Dev nD := nb (pk j) d

/-- The device before the next one is the device itself. -/
theorem zp_zn (d : Dev nD) : zp (zn d) = d := nb_inv 0 d
/-- The device after the previous one is the device itself. -/
theorem zn_zp (d : Dev nD) : zn (zp d) = d := nb_inv 1 d
/-- A device is its peer's peer of the same number. -/
theorem peer_peer (j : Fin 3) (d : Dev nD) : peer j (peer j d) = d := by revert j d; decide

/-- Along neighbour `k` the devices are permuted. -/
def nbEquiv (k : Fin 5) : Dev nD ≃ Dev nD := ⟨nb k, nb (inv5 k), nb_inv k, nb_inv' k⟩

/-- The block of columns device `d` reduces. -/
def fb (d : Dev nD) : Fin 4 := ⟨d.val / 4, by have : d.val < 16 := d.isLt; omega⟩
/-- The device at the ring position of `d` that reduces block `b`. -/
def at_ (d : Dev nD) (b : Fin 4) : Dev nD := ⟨4 * b.val + d.val % 4, by have := b.isLt; show _ < 16; omega⟩
/-- A device is the one of its plane that has its own block of columns. -/
theorem at_fb (d : Dev nD) : at_ d (fb d) = d := by revert d; decide
/-- A peer is the device of the plane that has the peer's block of columns. -/
theorem at_fb_peer (j : Fin 3) (d : Dev nD) : at_ d (fb (peer j d)) = peer j d := by revert j d; decide
/-- A peer sees the same plane. -/
theorem at_peer (j : Fin 3) (d : Dev nD) (b : Fin 4) : at_ (peer j d) b = at_ d b := by revert j d b; decide
/-- The block of rows device `d` adds at step `s` of the ring. -/
def rowB (d : Dev nD) (s : Fin 4) : Fin 4 := ⟨(d.val % 4 + 7 - s.val) % 4, by omega⟩

/-- The blocks of the plane: the own one and the three peers'. -/
theorem fb_peers (d : Dev nD) : (Finset.univ : Finset (Fin 4)) = insert (fb d) (Finset.univ.map ⟨fun j => fb (peer j d), by revert d; decide⟩) := by
  revert d; decide
/-- A peer's block of columns is not the device's own. -/
theorem fb_peer_ne (j : Fin 3) (d : Dev nD) : fb (peer j d) ≠ fb d := by revert j d; decide
/-- Different peers have different blocks of columns. -/
theorem fb_peer_inj (d : Dev nD) : Function.Injective fun j => fb (peer j d) := by revert d; decide

/-! ### The devices the program names -/

/-- The device that a barrier's signal goes to: a neighbour in the ring. -/
theorem dev1_eq (d : Dev nD) (h) : (⟨k0_dev1 d, h⟩ : Dev nD) = nb 0 d := Fin.ext (by revert d; decide +kernel)
/-- The device that a barrier's signal goes to: a neighbour in the ring. -/
theorem dev2_eq (d : Dev nD) (h) : (⟨k0_dev2 d, h⟩ : Dev nD) = nb 1 d := Fin.ext (by revert d; decide +kernel)
/-- The device that a barrier's signal goes to: a neighbour in the ring. -/
theorem dev30_eq (d : Dev nD) (h) : (⟨k0_dev30 d, h⟩ : Dev nD) = nb 0 d := Fin.ext (by revert d; decide +kernel)
/-- The device that a barrier's signal goes to: a neighbour in the ring. -/
theorem dev31_eq (d : Dev nD) (h) : (⟨k0_dev31 d, h⟩ : Dev nD) = nb 1 d := Fin.ext (by revert d; decide +kernel)
/-- The device that a hop goes to: the next one of the ring. -/
theorem dev6_eq (d : Dev nD) (h) : (⟨k0_dev6 d, h⟩ : Dev nD) = zn d := Fin.ext (by revert d; decide +kernel)
/-- The device that a hop goes to: the next one of the ring. -/
theorem dev7_eq (d : Dev nD) (h) : (⟨k0_dev7 d, h⟩ : Dev nD) = zn d := Fin.ext (by revert d; decide +kernel)
/-- The device that a hop goes to: the next one of the ring. -/
theorem dev8_eq (d : Dev nD) (h) : (⟨k0_dev8 d, h⟩ : Dev nD) = zn d := Fin.ext (by revert d; decide +kernel)
/-- The device that a hop goes to: the next one of the ring. -/
theorem dev9_eq (d : Dev nD) (h) : (⟨k0_dev9 d, h⟩ : Dev nD) = zn d := Fin.ext (by revert d; decide +kernel)
/-- The device that a hop goes to: the next one of the ring. -/
theorem dev10_eq (d : Dev nD) (h) : (⟨k0_dev10 d, h⟩ : Dev nD) = zn d := Fin.ext (by revert d; decide +kernel)
/-- The device that a hop goes to: the next one of the ring. -/
theorem dev11_eq (d : Dev nD) (h) : (⟨k0_dev11 d, h⟩ : Dev nD) = zn d := Fin.ext (by revert d; decide +kernel)
/-- The device that a hop goes to: the next one of the ring. -/
theorem dev12_eq (d : Dev nD) (h) : (⟨k0_dev12 d, h⟩ : Dev nD) = zn d := Fin.ext (by revert d; decide +kernel)
/-- The device that a hop goes to: the next one of the ring. -/
theorem dev16_eq (d : Dev nD) (h) : (⟨k0_dev16 d, h⟩ : Dev nD) = zn d := Fin.ext (by revert d; decide +kernel)
/-- The device that a hop goes to: the next one of the ring. -/
theorem dev17_eq (d : Dev nD) (h) : (⟨k0_dev17 d, h⟩ : Dev nD) = zn d := Fin.ext (by revert d; decide +kernel)
/-- The device that a hop goes to: the next one of the ring. -/
theorem dev21_eq (d : Dev nD) (h) : (⟨k0_dev21 d, h⟩ : Dev nD) = zn d := Fin.ext (by revert d; decide +kernel)
/-- The device that a hop goes to: the next one of the ring. -/
theorem dev22_eq (d : Dev nD) (h) : (⟨k0_dev22 d, h⟩ : Dev nD) = zn d := Fin.ext (by revert d; decide +kernel)
/-- The device that a hop goes to: the next one of the ring. -/
theorem dev26_eq (d : Dev nD) (h) : (⟨k0_dev26 d, h⟩ : Dev nD) = zn d := Fin.ext (by revert d; decide +kernel)

/-- The printed forms of the three devices of the plane. -/
theorem peerY (d : Dev nD) {n : ℕ} (e : n = (8 * (d.val / 8) + (d.val % 4) + 4) - 4 * ((d.val / 4) % 2)) (h : n < nD) :
    (⟨n, h⟩ : Dev nD) = nb 2 d := Fin.ext (by subst e; revert d; decide)
/-- The device across x, in the closed form in which the program computes its number. -/
theorem peerX (d : Dev nD) {n : ℕ} (e : n = (4 * ((d.val / 4) % 2) + (d.val % 4) + 8) - 8 * (d.val / 8)) (h : n < nD) :
    (⟨n, h⟩ : Dev nD) = nb 3 d := Fin.ext (by subst e; revert d; decide)
/-- The device across x and y, in the closed form in which the program computes its number. -/
theorem peerXY (d : Dev nD) {n : ℕ} (e : n = ((d.val % 4) + 12) - (8 * (d.val / 8) + 4 * ((d.val / 4) % 2))) (h : n < nD) :
    (⟨n, h⟩ : Dev nD) = nb 4 d := Fin.ext (by subst e; revert d; decide)

/-! ### The offsets the program computes -/

/-- Where the first hop of column block 0 reads the product. -/
theorem off1_eq (d : Dev nD) : k0_off1 d = ![512 * (rowB d 0).val, 512 * (0 : Fin 4).val] := by revert d; decide +kernel
/-- Where the first hop of column block 1 reads the product. -/
theorem off2_eq (d : Dev nD) : k0_off2 d = ![512 * (rowB d 0).val, 512 * (1 : Fin 4).val] := by revert d; decide +kernel
/-- Where the first hop of column block 2 reads the product. -/
theorem off4_eq (d : Dev nD) : k0_off4 d = ![512 * (rowB d 0).val, 512 * (2 : Fin 4).val] := by revert d; decide +kernel
/-- Where the first hop of column block 3 reads the product. -/
theorem off5_eq (d : Dev nD) : k0_off5 d = ![512 * (rowB d 0).val, 512 * (3 : Fin 4).val] := by revert d; decide +kernel
/-- Where the later hops of column block 0 read the product. -/
theorem off3_eq (d : Dev nD) (r : Fin 2) : k0_off3 d (BitVec.ofNat 32 (1 + r.val)) = ![512 * (rowB d ⟨1 + r.val, by omega⟩).val, 512 * (0 : Fin 4).val] := by
  revert d r; decide +kernel
/-- Where the later hops of column block 1 read the product. -/
theorem off6_eq (d : Dev nD) (r : Fin 2) : k0_off6 d (BitVec.ofNat 32 (1 + r.val)) = ![512 * (rowB d ⟨1 + r.val, by omega⟩).val, 512 * (1 : Fin 4).val] := by
  revert d r; decide +kernel
/-- Where the later hops of column block 2 read the product. -/
theorem off10_eq (d : Dev nD) (r : Fin 2) : k0_off10 d (BitVec.ofNat 32 (1 + r.val)) = ![512 * (rowB d ⟨1 + r.val, by omega⟩).val, 512 * (2 : Fin 4).val] := by
  revert d r; decide +kernel
/-- Where the later hops of column block 3 read the product. -/
theorem off12_eq (d : Dev nD) (r : Fin 2) : k0_off12 d (BitVec.ofNat 32 (1 + r.val)) = ![512 * (rowB d ⟨1 + r.val, by omega⟩).val, 512 * (3 : Fin 4).val] := by
  revert d r; decide +kernel
/-- Where the last sum of column block 0 reads the product. -/
theorem off7_eq (d : Dev nD) : k0_off7 d = ![512 * (rowB d 3).val, 512 * (0 : Fin 4).val] := by revert d; decide +kernel
/-- Where the last sum of column block 1 reads the product. -/
theorem off11_eq (d : Dev nD) : k0_off11 d = ![512 * (rowB d 3).val, 512 * (1 : Fin 4).val] := by revert d; decide +kernel
/-- Where the last sum of column block 2 reads the product. -/
theorem off13_eq (d : Dev nD) : k0_off13 d = ![512 * (rowB d 3).val, 512 * (2 : Fin 4).val] := by revert d; decide +kernel
/-- Where the last sum of column block 3 reads the product. -/
theorem off14_eq (d : Dev nD) : k0_off14 d = ![512 * (rowB d 3).val, 512 * (3 : Fin 4).val] := by revert d; decide +kernel
/-- Where a finished piece lies in the device's own columns, as stored. -/
theorem off8_eq (d : Dev nD) (c : Fin 4) : k0_off8 d (BitVec.ofNat 32 (512 * c.val)) = ![0, 2048 * (fb d).val + 512 * c.val] := by
  revert d c; decide +kernel
/-- Where a finished piece lies in the device's own columns, as sent. -/
theorem off9_eq (d : Dev nD) (c : Fin 4) : k0_off9 d (BitVec.ofNat 32 (512 * c.val)) = ![0, 2048 * (fb d).val + 512 * c.val] := by
  revert d c; decide +kernel

/-! ## Pieces -/

/-- A step of the ring and a chunk of columns; also a peer and a chunk. -/
abbrev K : Type := Fin 3 × Fin 4

/-- The slot of the receive buffer that step and chunk `x` land in. -/
abbrev rR (x : K) : Rect S3x4x512x512 := Rect.unit (s := S3x4x512x512) ![x.1.val, x.2.val, 0, 0] S1x1x512x512.size (by revert x; decide)
/-- Chunk `c` of the send buffer. -/
abbrev sR (c : Fin 4) : Rect S4x512x512 := Rect.unit (s := S4x512x512) ![c.val, 0, 0] S1x512x512.size (by revert c; decide)
/-- Row block `r`, chunk `c` of the product. -/
abbrev pR (r c : Fin 4) : Rect S2048x2048 := Rect.unit (s := S2048x2048) ![512 * r.val, 512 * c.val] S512x512.size (by revert r c; decide)
/-- Block `b`, chunk `c` of the output's columns. -/
abbrev oR (b c : Fin 4) : Rect S512x8192 := Rect.unit (s := S512x8192) ![0, 2048 * b.val + 512 * c.val] S512x512.size (by revert b c; decide)

/-- The whole buffer of the product. -/
abbrev pB : Memref sig .tc .vmem S2048x2048 .f32 := Memref.whole cc0_stg0_0
/-- The whole buffer of the result. -/
abbrev oB : Memref sig .tc .vmem S512x8192 .f32 := Memref.whole cc0_stg1_0
/-- The whole receive buffer. -/
abbrev rB : Memref sig .tc .vmem S3x4x512x512 .f32 := Memref.whole cc0_scratch0
/-- The whole send buffer. -/
abbrev sB : Memref sig .tc .vmem S4x512x512 .f32 := Memref.whole cc0_scratch1

/-- A piece of the receive buffer: of one hop and one block of columns. -/
abbrev rM (x : K) : Memref sig .tc .vmem S512x512 .f32 :=
  (rB.slice (rR x) (fun _ => rfl)).squeeze S512x512 squeezes_S1x1x512x512_S512x512
/-- A piece of the send buffer: of one block of columns. -/
abbrev sM (c : Fin 4) : Memref sig .tc .vmem S512x512 .f32 :=
  (sB.slice (sR c) (fun _ => rfl)).squeeze S512x512 squeezes_S1x512x512_S512x512
/-- A piece of the product: a block of rows and a block of columns. -/
abbrev pM (r c : Fin 4) : Memref sig .tc .vmem S512x512 .f32 := pB.slice (pR r c) (fun _ => rfl)
/-- A piece of the result: a block of columns of one device of the plane. -/
abbrev oM (b c : Fin 4) : Memref sig .tc .vmem S512x512 .f32 := oB.slice (oR b c) (fun _ => rfl)

/-- The places of a piece of the receive buffer. -/
theorem rM_set (x : K) : (rM x).view.set = (rR x).set := (View.set_reshape _ _).trans (View.set_slice_whole _ _)
/-- The places of a piece of the send buffer. -/
theorem sM_set (c : Fin 4) : (sM c).view.set = (sR c).set := (View.set_reshape _ _).trans (View.set_slice_whole _ _)
/-- The places of a piece of the product. -/
theorem pM_set (r c : Fin 4) : (pM r c).view.set = (pR r c).set := View.set_slice_whole _ _
/-- The places of a piece of the result. -/
theorem oM_set (b c : Fin 4) : (oM b c).view.set = (oR b c).set := View.set_slice_whole _ _

/-- A slice at an offset that is a piece's is the piece. -/
theorem pM_of {off : Fin 2 → ℕ} {r c : Fin 4} (e : off = ![512 * r.val, 512 * c.val]) (h) (h') :
    pB.slice (Rect.unit (s := S2048x2048) off S512x512.size h) h' = pM r c := by subst e; rfl
/-- A slice of the result at a piece's offsets is the piece. -/
theorem oM_of {off : Fin 2 → ℕ} {b c : Fin 4} (e : off = ![0, 2048 * b.val + 512 * c.val]) (h) (h') :
    oB.slice (Rect.unit (s := S512x8192) off S512x512.size h) h' = oM b c := by subst e; rfl

/-! ### Where a piece's elements lie -/

/-- Element `i` of block `b` of an axis of 2048 in blocks of 512. -/
def blk (b : Fin 4) (i : Fin 512) : Fin 2048 := ⟨512 * b.val + i.val, by omega⟩
/-- Element `i` of chunk `c` of block `b` of the output's columns. -/
def ocol (b c : Fin 4) (i : Fin 512) : Fin 8192 := ⟨2048 * b.val + 512 * c.val + i.val, by omega⟩

/-- Where an element of a piece lies in the receive buffer, the piece as a rectangle. -/
theorem rR_emb (x : K) (i j : Fin 1) (a b : Fin 512) : (rR x).emb (ix4 i j a b) = ix4 x.1 x.2 a b := by
  funext k; refine Fin.ext ?_
  have h1 : i.val = 0 := by omega
  have h2 : j.val = 0 := by omega
  rcases x with ⟨x, y⟩
  fin_cases k <;> simp [ix4, h1, h2]
/-- Where an element of a piece lies in the send buffer, the piece as a rectangle. -/
theorem sR_emb (c : Fin 4) (i : Fin 1) (a b : Fin 512) : (sR c).emb (ix3 i a b) = ix3 c a b := by
  funext k; refine Fin.ext ?_
  have h1 : i.val = 0 := by omega
  fin_cases k <;> simp [ix3, h1]
/-- Where an element of a piece lies in the product, the piece as a rectangle. -/
theorem pR_emb (r c : Fin 4) (a b : Fin 512) : (pR r c).emb (ix2 a b) = ix2 (blk r a) (blk c b) := by
  funext k; refine Fin.ext ?_
  fin_cases k <;> simp [ix2, blk]
/-- Where an element of a piece lies in the result, the piece as a rectangle. -/
theorem oR_emb (e c : Fin 4) (a b : Fin 512) : (oR e c).emb (ix2 a b) = ix2 a (ocol e c b) := by
  funext k; refine Fin.ext ?_
  fin_cases k <;> simp [ix2, ocol]

/-- Where an element of a piece lies in the receive buffer. -/
theorem rM_emb (x : K) (a b : Fin 512) : (rM x).view.emb (ix2 a b) = (ix4 x.1 x.2 a b : S3x4x512x512.Idx) :=
  (congrArg (rR x).emb (reshapeEquiv_ix2_11ab _ a b)).trans (rR_emb x _ _ a b)
/-- Where an element of a piece lies in the send buffer. -/
theorem sM_emb (c : Fin 4) (a b : Fin 512) : (sM c).view.emb (ix2 a b) = (ix3 c a b : S4x512x512.Idx) :=
  (congrArg (sR c).emb (reshapeEquiv_ix2_1ab _ a b)).trans (sR_emb c _ a b)
/-- Where an element of a piece lies in the product. -/
theorem pM_emb (r c : Fin 4) (a b : Fin 512) : (pM r c).view.emb (ix2 a b) = (ix2 (blk r a) (blk c b) : S2048x2048.Idx) := pR_emb r c a b
/-- Where an element of a piece lies in the result. -/
theorem oM_emb (e c : Fin 4) (a b : Fin 512) : (oM e c).view.emb (ix2 a b) = (ix2 a (ocol e c b) : S512x8192.Idx) := oR_emb e c a b

/-! ## What the buffers hold -/

/-- The product each device enters the kernel with. -/
abbrev Prods (F : FTy → Type) : Type := Dev nD → S2048x2048.Idx → F .f32

/-- The partial sum device `d` holds after step `s` of the ring, at row `i` of the row block it then adds and column `q`. -/
def accN (P : Prods F) : ℕ → Dev nD → Fin 512 → Fin 2048 → F .f32
  | 0, d, i, q => P d (ix2 (blk (rowB d 0) i) q)
  | s + 1, d, i, q => FloatOps.addf (accN P s (zp d) i q) (P d (ix2 (blk (rowB d (Fin.ofNat 4 (s + 1))) i) q))

/-- What device `d`'s receive buffer holds where a block has landed. -/
def recvC (P : Prods F) (d : Dev nD) : S3x4x512x512.Idx → F .f32 := fun i => accN P (i 0).val (zp d) (i 2) (blk (i 1) (i 3))
/-- What device `d`'s send buffer holds where the partial sum of step `s` is. -/
def sbufC (P : Prods F) (s : ℕ) (d : Dev nD) : S4x512x512.Idx → F .f32 := fun i => accN P s d (i 1) (blk (i 0) (i 2))
/-- What device `d`'s output holds where it is final. -/
def outC (P : Prods F) (d : Dev nD) : S512x8192.Idx → F .f32 := fun i =>
  accN P 3 (at_ d ⟨(i 1).val / 2048, by have : (i 1).val < 8192 := (i 1).isLt; omega⟩) (i 0) ⟨(i 1).val % 2048, Nat.mod_lt _ (by decide)⟩

/-- The finished result at an element of a piece is the ring's full sum on the device whose block of columns it is. -/
theorem outC_ix2 (P : Prods F) (d : Dev nD) (e c : Fin 4) (a b : Fin 512) :
    outC P d (ix2 a (ocol e c b)) = accN P 3 (at_ d e) a (blk c b) := by
  have h1 : (⟨(ocol e c b).val / 2048, by have := (ocol e c b).isLt; omega⟩ : Fin 4) = e := Fin.ext (by simp only [ocol]; omega)
  have h2 : (⟨(ocol e c b).val % 2048, Nat.mod_lt _ (by decide)⟩ : Fin 2048) = blk c b := Fin.ext (by simp only [ocol, blk]; omega)
  show accN P 3 (at_ d ⟨(ocol e c b).val / 2048, _⟩) a ⟨(ocol e c b).val % 2048, _⟩ = _
  rw [h1, h2]

/-- A whole 512×512 view's elements are the images of the pairs. -/
theorem forall_set {v : View sig .tc .vmem S512x512 .f32} {p : v.ty.Idx → Prop} (h : ∀ a b : Fin 512, p (v.emb (ix2 a b))) :
    ∀ i ∈ v.set, p i := by
  intro i hi
  obtain ⟨j, -, rfl⟩ := Finset.mem_map.mp hi
  obtain ⟨a, b, rfl⟩ : ∃ a b, j = ix2 a b := ⟨_, _, eq_ix2 j⟩
  exact h a b

/-- The first step's block lands as the receive buffer's contents say. -/
theorem land0 (P : Prods F) (d : Dev nD) (c : Fin 4) (f : S3x4x512x512.Idx → F .f32) :
    ∀ i ∈ (rM (0, c)).view.set,
      (rM (0, c)).view.write (Elt F) f ((pM (rowB d 0) c).view.read (Elt F) (P d)) Finset.univ i = recvC P (zn d) i :=
  forall_set fun a b => by
    rw [View.write_emb_of_mem _ _ (Finset.mem_univ _), rM_emb]
    show P d ((pM (rowB d 0) c).view.emb (ix2 a b)) = accN P 0 (zp (zn d)) a (blk c b)
    rw [pM_emb, zp_zn]; rfl
/-- A later step's block lands as the receive buffer's contents say. -/
theorem landS (P : Prods F) (d : Dev nD) (x : K) (f : S3x4x512x512.Idx → F .f32) :
    ∀ i ∈ (rM x).view.set,
      (rM x).view.write (Elt F) f ((sM x.2).view.read (Elt F) (sbufC P x.1.val d)) Finset.univ i = recvC P (zn d) i :=
  forall_set fun a b => by
    rw [View.write_emb_of_mem _ _ (Finset.mem_univ _), rM_emb]
    show sbufC P x.1.val d ((sM x.2).view.emb (ix2 a b)) = accN P x.1.val (zp (zn d)) a (blk x.2 b)
    rw [sM_emb, zp_zn]; rfl
/-- A finished piece lands on a peer as its output's contents say. -/
theorem landO (P : Prods F) (d : Dev nD) (j : Fin 3) (c : Fin 4) (f : S512x8192.Idx → F .f32) :
    ∀ i ∈ (oM (fb d) c).view.set,
      (oM (fb d) c).view.write (Elt F) f ((oM (fb d) c).view.read (Elt F) (outC P d)) Finset.univ i = outC P (peer j d) i :=
  forall_set fun a b => by
    rw [View.write_emb_of_mem _ _ (Finset.mem_univ _)]
    show outC P d ((oM (fb d) c).view.emb (ix2 a b)) = _
    rw [oM_emb, outC_ix2, outC_ix2, at_peer]

/-- The sum of a received block and a block of the product, element by element. -/
theorem pay_out (v : S1x1x512x512.Idx → F .f32) (w : S512x512.Idx → F .f32) (a b : Fin 512) :
    k0_pay4 v w (ix2 a b) = FloatOps.addf (v (ix4 (0 : Fin 1) (0 : Fin 1) a b)) (w (ix2 a b)) := by
  show FloatOps.addf (v (Shape.reshapeEquiv _ (ix2 a b))) (w (Shape.reshapeEquiv _ (ix2 a b))) = _
  rw [reshapeEquiv_ix2_11ab, Shape.reshapeEquiv_self]
  rfl
/-- The same sum under a leading unit axis, as it is stored to the send buffer. -/
theorem pay_send (v : S1x1x512x512.Idx → F .f32) (w : S512x512.Idx → F .f32) (i : Fin 1) (a b : Fin 512) :
    k0_pay1 v w (ix3 i a b) = FloatOps.addf (v (ix4 (0 : Fin 1) (0 : Fin 1) a b)) (w (ix2 a b)) := by
  have e : Shape.reshapeEquiv shapeCasts_S512x512_S1x512x512 (ix3 i a b) = (ix2 a b : S512x512.Idx) :=
    Shape.reshapeEquiv_eq_of_rowMajor _ (by
      rw [Shape.rowMajor_val_three, Shape.rowMajor_val_two]
      have hi : i.val = 0 := by omega
      show a.val * 512 + b.val = (i.val * 512 + a.val) * 512 + b.val
      rw [hi, Nat.zero_mul, Nat.zero_add])
  refine Eq.trans ?_ (pay_out v w a b)
  show k0_pay4 v w (Shape.reshapeEquiv shapeCasts_S512x512_S1x512x512 (ix3 i a b)) = _
  rw [e]

end Cert.KernelIdeal.Rs
-- ==== Proof.Ideal.Sched.lean ====
/-
  The protocol: the cells of every device, the duties each is owed and what each duty hands over, the levels, and what
  a device owes while it still has things to send.
-/
module

public import proofs.«01_k».proof.Proof.Ideal.Geom
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Harness.Basic

@[expose] public section

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the pipeline library and of this protocol. -/
abbrev UU : Type := UR sig nD τ × URounds (GSem nD τ sig) (Fin 5)

local notation "𝕄" => MT nD τ sig Unit (Elt F) ℕ UU ℕ

/-- Where the copies into and out of the kernel keep their state. -/
abbrev EP : Emb (UR sig nD τ) (MT nD τ sig Unit (Elt F) ℕ UU ℕ) := embL
/-- Where the protocol's rounds keep their state. -/
abbrev ER : Emb (URounds (GSem nD τ sig) (Fin 5)) (MT nD τ sig Unit (Elt F) ℕ UU ℕ) := embR

/-! ## Cells -/

/-- The two counting semaphores: of the entry barrier, and of the exit barrier. -/
abbrev barS : Sem sig := ⟨0, by decide⟩
/-- The semaphore of the last barrier. -/
abbrev exitS : Sem sig := ⟨1, by decide⟩
/-- The transfer semaphores: kind 0 and 1 the ring's send and receive side, 2 and 3 the gather's. -/
def dsem (k : Fin 4) (x : K) : DmaSem sig := ⟨2 + 12 * k.val + 4 * x.1.val + x.2.val, by revert k x; decide⟩
/-- Which of them a transfer semaphore is. -/
def dec (s : DmaSem sig) : Option (Fin 4 × K) :=
  if h : 2 ≤ s.val then some (⟨(s.val - 2) / 12, by have : s.val < 50 := s.isLt; omega⟩,
    ⟨(s.val - 2) % 12 / 4, by omega⟩, ⟨(s.val - 2) % 4, by omega⟩) else none
/-- A copy semaphore's array and place are read back from its number. -/
theorem dec_dsem (k : Fin 4) (x : K) : dec (dsem k x) = some (k, x) := by revert k x; decide
/-- Different arrays or places are different copy semaphores. -/
theorem dsem_inj {k k' : Fin 4} {x x' : K} (h : dsem k x = dsem k' x') : k = k' ∧ x = x' := by
  have e : some (k, x) = some (k', x') := by rw [← dec_dsem k x, ← dec_dsem k' x', h]
  exact ⟨congrArg Prod.fst (Option.some.inj e), congrArg Prod.snd (Option.some.inj e)⟩

/-- A device's first barrier. -/
abbrev bar (d : Dev nD) : GSem nD τ sig := ((d : Thread nD τ), .reg barS)
/-- A device's last barrier. -/
abbrev exit (d : Dev nD) : GSem nD τ sig := ((d : Thread nD τ), .reg exitS)
/-- A device's copy semaphore: array `k`, place `x`. -/
abbrev dcell (k : Fin 4) (d : Dev nD) (x : K) : GSem nD τ sig := ((d : Thread nD τ), .dma (dsem k x))

/-- What a transfer of one block credits. -/
def N : ℕ := (rM (0, 0)).view.dmaCredit
/-- A copy's credit is positive. -/
theorem N_pos : 0 < N := View.dmaCredit_pos _ (by decide)
/-- Every piece's copy has the same credit. -/
theorem credit (v : View sig .tc .vmem S512x512 .f32) : v.dmaCredit = N := rfl

/-! ## Holding a piece -/

/-- A piece of the product, at a share and at contents. -/
abbrev pP (d : Dev nD) (r c : Fin 4) (q : PosShare TreeShare) (f : S2048x2048.Idx → F .f32) : sProp 𝕄 :=
  (pM r c).view.loc (d : Thread nD τ) ↦[(pM r c).view.set]{q} f
/-- A piece of the result, at a share and at contents. -/
abbrev oP (d : Dev nD) (b c : Fin 4) (q : PosShare TreeShare) (f : S512x8192.Idx → F .f32) : sProp 𝕄 :=
  (oM b c).view.loc (d : Thread nD τ) ↦[(oM b c).view.set]{q} f
/-- A piece of the receive buffer, owned whole. -/
abbrev rP (d : Dev nD) (x : K) (f : S3x4x512x512.Idx → F .f32) : sProp 𝕄 :=
  (rM x).view.loc (d : Thread nD τ) ↦[(rM x).view.set]{fullShare} f
/-- A piece of the send buffer, owned whole. -/
abbrev sP (d : Dev nD) (c : Fin 4) (f : S4x512x512.Idx → F .f32) : sProp 𝕄 :=
  (sM c).view.loc (d : Thread nD τ) ↦[(sM c).view.set]{fullShare} f

/-- The halves of the product's share: the left one is lent to the first sends, the right one serves the loads. -/
abbrev qL : PosShare TreeShare := fullShare.left
/-- The right half of the share: it stays with the device for its loads. -/
abbrev qR : PosShare TreeShare := fullShare.right
/-- The share of a finished piece that the copy to peer `j` borrows. -/
def q3 : Fin 3 → PosShare TreeShare := ![fullShare.left, fullShare.right.left, fullShare.right.right]

/-! ## The schedule -/

variable (P : Prods F)

/-- What device `q` hands over with its signal to its neighbour `k`: to the previous device of the ring the twelve slots of its
    receive buffer, to a device of its plane the four pieces of its output that this device will fill. -/
def lend (q : Dev nD) : Fin 5 → sProp 𝕄
  | 0 => iprop(emp)
  | 1 => bigSep Finset.univ fun x : K => iprop((∃ f, rP q x f) ∗ reached ER (dcell 1 q x) 0)
  | 2 => bigSep Finset.univ fun c : Fin 4 => iprop((∃ f, oP q (fb (peer 0 q)) c fullShare f) ∗ reached ER (dcell 3 q (0, c)) 0)
  | 3 => bigSep Finset.univ fun c : Fin 4 => iprop((∃ f, oP q (fb (peer 1 q)) c fullShare f) ∗ reached ER (dcell 3 q (1, c)) 0)
  | 4 => bigSep Finset.univ fun c : Fin 4 => iprop((∃ f, oP q (fb (peer 2 q)) c fullShare f) ∗ reached ER (dcell 3 q (2, c)) 0)

/-- The entry barrier's duty `k` on device `d` is paid by the device whose neighbour along `k` is `d`. -/
def barPay (d : Dev nD) (k : Fin 5) : sProp 𝕄 :=
  iprop(reached ER (exit (nb (inv5 k) d)) 0 ∗ lend (nb (inv5 k) d) k)

/-- What a transfer hands to the owner of the semaphore it completes on. -/
def dmaPay (d : Dev nD) : Fin 4 → K → sProp 𝕄
  | 0, x => if x.1 = 0 then pP d (rowB d 0) x.2 qL (P d) else sP d x.2 (sbufC P x.1.val d)
  | 1, x => rP d x (recvC P d)
  | 2, x => oP d (fb d) x.2 (q3 x.1) (outC P d)
  | 3, x => oP d (fb (peer x.1 d)) x.2 fullShare (outC P d)

/-- What each semaphore's duties hand over. -/
def semPay (d : Dev nD) (k : Fin 5) : SemLoc sig → sProp 𝕄
  | .reg s => if s = barS then barPay d k else iprop(emp)
  | .dma s => match dec s with
    | some (t, x) => dmaPay P d t x
    | none => iprop(emp)

/-- The duties on each semaphore. -/
def semDuties : SemLoc sig → Finset (Fin 5)
  | .reg _ => Finset.univ
  | .dma s => if (dec s).isSome then {0} else ∅

/-- How much each duty on a semaphore pays. -/
def semAmount : SemLoc sig → ℕ
  | .reg _ => 1
  | .dma _ => N

/-- One round everywhere: five duties on a barrier cell, one on a transfer cell. -/
def Rd : Rounds.Schedule (GSem nD τ sig) (Fin 5) 𝕄 where
  duties g r := if r = 0 ∧ g.1.2 = .tc then semDuties g.2 else ∅
  unitless _ := False
  amount g _ _ := semAmount g.2
  payload g _ k := semPay P g.1.1 k g.2
  amount_pos g _ _ _ := by
    show 0 < semAmount g.2
    cases g.2 with
    | reg s => exact Nat.one_pos
    | dma s => exact N_pos

/-- What is lent may be kept in an invariant. -/
instance lend_storable (q : Dev nD) (k : Fin 5) : BI.Storable (upEmb : UEmb _ 𝕄) (lend (F := F) q k) := by
  unfold lend; fin_cases k <;> infer_instance
/-- What the barrier hands over may be kept in an invariant. -/
instance barPay_storable (d : Dev nD) (k : Fin 5) : BI.Storable (upEmb : UEmb _ 𝕄) (barPay (F := F) d k) := by
  unfold barPay; infer_instance
/-- What a copy hands over may be kept in an invariant. -/
instance dmaPay_storable (d : Dev nD) (t : Fin 4) (x : K) : BI.Storable (upEmb : UEmb _ 𝕄) (dmaPay P d t x) := by
  unfold dmaPay; fin_cases t <;> dsimp only <;> (repeat' split) <;> infer_instance
/-- Whatever a duty hands over may be kept in an invariant. -/
instance Rd_storable (g : GSem nD τ sig) (r : ℕ) (k : Fin 5) : BI.Storable (upEmb : UEmb _ 𝕄) ((Rd P).payload g r k) := by
  show BI.Storable upEmb (semPay P g.1.1 k g.2)
  unfold semPay; (repeat' split) <;> infer_instance

/-- The duties of the first round. -/
theorem duties_tc (d : Dev nD) (sm : SemLoc sig) : (Rd P).duties ((d : Thread nD τ), sm) 0 = semDuties sm := by
  dsimp only [Rd]; exact if_pos ⟨rfl, rfl⟩
/-- There is only one round. -/
theorem duties_later (g : GSem nD τ sig) : ∀ r, 1 ≤ r → (Rd P).duties g r = ∅ :=
  fun r hr => by dsimp only [Rd]; exact if_neg fun h => by omega
/-- The first barrier has a duty for each neighbour. -/
theorem duties_bar (d : Dev nD) : (Rd P).duties (bar d) 0 = Finset.univ := duties_tc P d _
/-- The last barrier has a duty for each neighbour. -/
theorem duties_exit (d : Dev nD) : (Rd P).duties (exit d) 0 = Finset.univ := duties_tc P d _
/-- A copy semaphore has one duty. -/
theorem duties_dma (t : Fin 4) (d : Dev nD) (x : K) : (Rd P).duties (dcell t d x) 0 = {0} := by
  rw [duties_tc]; unfold semDuties; dsimp only; rw [dec_dsem]; rfl
/-- What each signal of the first barrier hands over. -/
theorem payload_bar (d : Dev nD) (k : Fin 5) : (Rd P).payload (bar d) 0 k = barPay d k := by
  dsimp only [Rd, semPay]; exact if_pos rfl
/-- The last barrier hands nothing over. -/
theorem payload_exit (d : Dev nD) (k : Fin 5) : (Rd P).payload (exit d) 0 k = iprop(emp) := by
  dsimp only [Rd, semPay]; exact if_neg (by decide)
/-- What a copy's landing or leaving hands over. -/
theorem payload_dma (t : Fin 4) (d : Dev nD) (x : K) (k : Fin 5) : (Rd P).payload (dcell t d x) 0 k = dmaPay P d t x := by
  dsimp only [Rd, semPay]; rw [dec_dsem]
/-- The first barrier counts to five. -/
theorem expect_bar (d : Dev nD) : (Rd P).expect (bar d) 0 = 5 := by
  unfold Schedule.expect Schedule.amountOf; rw [duties_bar]; rfl
/-- The last barrier counts to five. -/
theorem expect_exit (d : Dev nD) : (Rd P).expect (exit d) 0 = 5 := by
  unfold Schedule.expect Schedule.amountOf; rw [duties_exit]; rfl
/-- A copy semaphore counts to one copy's credit. -/
theorem expect_dma (t : Fin 4) (d : Dev nD) (x : K) : (Rd P).expect (dcell t d x) 0 = N := by
  unfold Schedule.expect Schedule.amountOf; rw [duties_dma, Finset.sum_singleton]; rfl
/-- All that the first barrier hands over. -/
theorem rest_bar (d : Dev nD) : bigSep ((Rd P).duties (bar d) 0 \ ∅) (fun k => (Rd P).payload (bar d) 0 k) = bigSep Finset.univ (barPay d) := by
  rw [Finset.sdiff_empty, duties_bar]; exact bigSep_congr fun k _ => payload_bar P d k
/-- All that a copy semaphore hands over. -/
theorem rest_dma (t : Fin 4) (d : Dev nD) (x : K) :
    bigSep ((Rd P).duties (dcell t d x) 0 \ ∅) (fun k => (Rd P).payload (dcell t d x) 0 k) = dmaPay P d t x := by
  rw [Finset.sdiff_empty, duties_dma, bigSep_singleton, payload_dma]

/-! ## Levels -/

/-- The order in which a device makes its sends along the ring. -/
def pos (x : K) : ℕ := (![![0, 1, 3, 5], ![2, 6, 8, 10], ![4, 7, 9, 11]] : Fin 3 → Fin 4 → ℕ) x.1 x.2

/-- Every semaphore of a device's core has one kind of unit. -/
def L (g : GSem nD τ sig) : Finset Unit := if g.1.2 = .tc then {()} else ∅
/-- The level of each semaphore. -/
def semLv : SemLoc sig → ℕ
  | .reg s => if s = barS then 1 else 30
  | .dma s => match dec s with
    | some (1, x) => 2 + pos x
    | some (3, _) => 20
    | _ => 0
/-- The levels: send cells and staging at 0, the entry barrier at 1, the ring's receives in the order of the sends, then
    the gather's receives, then the exit barrier. -/
def lv (g : GSem nD τ sig) (_ : Unit) : ℕ := semLv g.2
/-- A semaphore of a core has its kind of unit. -/
theorem L_tc (d : Dev nD) (sm : SemLoc sig) : () ∈ L ((d : Thread nD τ), sm) := by
  show () ∈ (if _ then _ else _); rw [if_pos rfl]; exact Finset.mem_singleton_self _
/-- Nothing but a core has units. -/
theorem L_of_ne (g : GSem nD τ sig) (h : g.1.2 ≠ .tc) : L g = ∅ := if_neg h
/-- The level of the last barrier. -/
theorem lv_exit (d : Dev nD) : lv (exit d) () = 30 := rfl
/-- The level of a hop's landing. -/
theorem lv_recv1 (d : Dev nD) (x : K) : lv (dcell 1 d x) () = 2 + pos x := by unfold lv semLv; dsimp only; rw [dec_dsem]; rfl
/-- The level of a landing in the plane. -/
theorem lv_recv2 (d : Dev nD) (x : K) : lv (dcell 3 d x) () = 20 := by unfold lv semLv; dsimp only; rw [dec_dsem]; rfl
/-- The level of a hop's leaving. -/
theorem lv_send1 (d : Dev nD) (x : K) : lv (dcell 0 d x) () = 0 := by unfold lv semLv; dsimp only; rw [dec_dsem]; rfl
/-- The level of a plane copy's leaving. -/
theorem lv_send2 (d : Dev nD) (x : K) : lv (dcell 2 d x) () = 0 := by unfold lv semLv; dsimp only; rw [dec_dsem]; rfl

/-! ## Where a device is -/

/-- How far device has come: each send along the ring (0 to do, 1 in flight, 2 waited for), each receive along it (waited
    for or not), each chunk of the send buffer (0 anything, `s` in 1, 2 the sum of step `s`, 3 lent), each own piece of the
    output (0 anything, `n + 1` with the shares of peers from `n` on), each send and receive of the gather, the signals of
    the entry barrier and of the exit barrier. -/
structure Sg where
  t : K → Fin 3
  r : K → Bool
  s : Fin 4 → Fin 4
  o : Fin 4 → Fin 5
  u : K → Fin 3
  v : K → Bool
  b : Fin 5 → Bool
  e : Fin 5 → Bool

/-- The status with one entry changed. -/
def Sg.setT (σ : Sg) (x : K) (v : Fin 3) : Sg := { σ with t := Function.update σ.t x v }
/-- The status with a hop's landing waited for. -/
def Sg.setR (σ : Sg) (x : K) : Sg := { σ with r := Function.update σ.r x true }
/-- The status with a piece of the send buffer changed. -/
def Sg.setS (σ : Sg) (c v : Fin 4) : Sg := { σ with s := Function.update σ.s c v }
/-- The status with a piece of the device's own columns changed. -/
def Sg.setO (σ : Sg) (c : Fin 4) (v : Fin 5) : Sg := { σ with o := Function.update σ.o c v }
/-- The status with a copy in the plane changed. -/
def Sg.setU (σ : Sg) (x : K) (v : Fin 3) : Sg := { σ with u := Function.update σ.u x v }
/-- The status with a landing in the plane waited for. -/
def Sg.setV (σ : Sg) (x : K) : Sg := { σ with v := Function.update σ.v x true }
/-- The status with a signal of the first barrier given. -/
def Sg.setB (σ : Sg) (k : Fin 5) : Sg := { σ with b := Function.update σ.b k true }
/-- The status with a signal of the last barrier given. -/
def Sg.setE (σ : Sg) (k : Fin 5) : Sg := { σ with e := Function.update σ.e k true }

/-- What device `d` still owes. -/
def owed (d : Dev nD) (σ : Sg) : CellTallies nD τ sig Unit :=
  ((∑ x : K, if σ.t x = 0 then tallyAt (dcell 1 (zn d) x) () N else 0)
    + (∑ x : K, if σ.u x = 0 then tallyAt (dcell 3 (peer x.1 d) x) () N else 0))
  + ((∑ k : Fin 5, if σ.b k = false then tallyAt (bar (nb k d)) () 1 else 0)
    + (∑ k : Fin 5, if σ.e k = false then tallyAt (exit (nb k d)) () 1 else 0))

/-- A summand of the first part taken out of a sum of four. -/
theorem add_out1 {M : Type} [AddCommMonoid M] (a w b c e : M) : (a + w + b) + (c + e) = (a + b) + (c + e) + w := by ac_rfl
/-- A summand of the second part taken out of a sum of four. -/
theorem add_out2 {M : Type} [AddCommMonoid M] (a w b c e : M) : (a + (b + w)) + (c + e) = (a + b) + (c + e) + w := by ac_rfl
/-- A summand of the third part taken out of a sum of four. -/
theorem add_out3 {M : Type} [AddCommMonoid M] (a w b c e : M) : (a + b) + (c + w + e) = (a + b) + (c + e) + w := by ac_rfl
/-- A summand of the fourth part taken out of a sum of four. -/
theorem add_out4 {M : Type} [AddCommMonoid M] (a w b c e : M) : (a + b) + (c + (e + w)) = (a + b) + (c + e) + w := by ac_rfl

/-- A sum over a family with one member changed from what it was to nothing. -/
theorem sum_drop {A B M : Type} [Fintype A] [DecidableEq A] [DecidableEq B] [AddCommMonoid M] (f : A → B) (b b' : B) (hb : b' ≠ b) (w : A → M) (a : A)
    (ha : f a = b) :
    (∑ x, if f x = b then w x else 0) = (∑ x, if Function.update f a b' x = b then w x else 0) + w a := by
  rw [← Finset.add_sum_erase Finset.univ _ (Finset.mem_univ a), ← Finset.add_sum_erase (f := fun x => if Function.update f a b' x = b then w x else 0) Finset.univ (Finset.mem_univ a)]
  rw [if_pos ha, Function.update_self, if_neg hb, zero_add, add_comm]
  refine congrArg (· + w a) (Finset.sum_congr rfl fun x hx => ?_)
  rw [Function.update_of_ne (Finset.ne_of_mem_erase hx)]

/-- A sum over the places with a certain status, after a change at one place that has another status before and after. -/
theorem sum_keep {A B M : Type} [Fintype A] [DecidableEq A] [DecidableEq B] [AddCommMonoid M] (f : A → B) (b b' : B) (hb : b' ≠ b) (w : A → M) (a : A)
    (ha : f a ≠ b) :
    (∑ x, if Function.update f a b' x = b then w x else 0) = ∑ x, if f x = b then w x else 0 := by
  refine Finset.sum_congr rfl fun x _ => ?_
  by_cases h : x = a
  · subst h; rw [Function.update_self, if_neg hb, if_neg ha]
  · rw [Function.update_of_ne h]

/-- Starting a hop pays its landing. -/
theorem owed_t (d : Dev nD) (σ : Sg) (x : K) (h : σ.t x = 0) :
    owed d σ = owed d (σ.setT x 1) + tallyAt (dcell 1 (zn d) x) () N := by
  unfold owed Sg.setT; dsimp only
  rw [sum_drop σ.t 0 1 (by decide) _ x h]; exact add_out1 _ _ _ _ _
/-- Starting a copy in the plane pays its landing. -/
theorem owed_u (d : Dev nD) (σ : Sg) (x : K) (h : σ.u x = 0) :
    owed d σ = owed d (σ.setU x 1) + tallyAt (dcell 3 (peer x.1 d) x) () N := by
  unfold owed Sg.setU; dsimp only
  rw [sum_drop σ.u 0 1 (by decide) _ x h]; exact add_out2 _ _ _ _ _
/-- A signal of the first barrier pays its unit. -/
theorem owed_b (d : Dev nD) (σ : Sg) (k : Fin 5) (h : σ.b k = false) :
    owed d σ = owed d (σ.setB k) + tallyAt (bar (nb k d)) () 1 := by
  unfold owed Sg.setB; dsimp only
  rw [sum_drop σ.b false true (by decide) _ k h]; exact add_out3 _ _ _ _ _
/-- A signal of the last barrier pays its unit. -/
theorem owed_e (d : Dev nD) (σ : Sg) (k : Fin 5) (h : σ.e k = false) :
    owed d σ = owed d (σ.setE k) + tallyAt (exit (nb k d)) () 1 := by
  unfold owed Sg.setE; dsimp only
  rw [sum_drop σ.e false true (by decide) _ k h]; exact add_out4 _ _ _ _ _
/-- Waiting for a hop's leaving owes no less. -/
theorem owed_t2 (d : Dev nD) (σ : Sg) (x : K) (h : σ.t x = 1) : owed d (σ.setT x 2) = owed d σ := by
  unfold owed Sg.setT; dsimp only
  rw [sum_keep σ.t 0 2 (by decide) _ x (by rw [h]; decide)]
/-- Waiting for a plane copy's leaving owes no less. -/
theorem owed_u2 (d : Dev nD) (σ : Sg) (x : K) (h : σ.u x = 1) : owed d (σ.setU x 2) = owed d σ := by
  unfold owed Sg.setU; dsimp only
  rw [sum_keep σ.u 0 2 (by decide) _ x (by rw [h]; decide)]

/-- A sum of tallies is positive at a cell only through one of them. -/
theorem sum_pos {A : Type} [Fintype A] {p : A → Prop} [DecidablePred p] {c : A → GSem nD τ sig} {n : ℕ} {g : GSem nD τ sig} {u : Unit}
    (h : 0 < (∑ x : A, if p x then (tallyAt (c x) () n : CellTallies nD τ sig Unit) else 0) g u) : ∃ x, p x ∧ g = c x := by
  rw [Finset.sum_apply, Finsupp.finsetSum_apply] at h
  obtain ⟨x, -, hx⟩ := Finset.exists_ne_zero_of_sum_ne_zero h.ne'
  refine ⟨x, ?_⟩
  by_cases hp : p x
  · rw [if_pos hp, tallyAt_apply] at hx
    refine ⟨hp, ?_⟩
    by_contra hg
    exact hx (if_neg fun e => hg e.1)
  · rw [if_neg hp] at hx; exact absurd rfl hx

/-- Of four numbers with a positive sum one is positive. -/
theorem add_pos4 {a b c e : ℕ} (h : 0 < a + b + (c + e)) : 0 < a ∨ 0 < b ∨ 0 < c ∨ 0 < e := by omega

/-- What is owed lies on these cells. -/
theorem owed_pos {d : Dev nD} {σ : Sg} {g : GSem nD τ sig} {u : Unit} (h : 0 < owed d σ g u) :
    (∃ x, σ.t x = 0 ∧ g = dcell 1 (zn d) x) ∨ (∃ x, σ.u x = 0 ∧ g = dcell 3 (peer x.1 d) x)
      ∨ (∃ k, σ.b k = false ∧ g = bar (nb k d)) ∨ (∃ k, σ.e k = false ∧ g = exit (nb k d)) := by
  unfold owed at h
  rw [Pi.add_apply, Finsupp.add_apply, Pi.add_apply, Finsupp.add_apply, Pi.add_apply, Finsupp.add_apply] at h
  rcases add_pos4 h with h | h | h | h
  · exact .inl (sum_pos h)
  · exact .inr (.inl (sum_pos h))
  · exact .inr (.inr (.inl (sum_pos h)))
  · exact .inr (.inr (.inr (sum_pos h)))

/-- What is owed is owed on a core's semaphore. -/
theorem owed_L {d : Dev nD} {σ : Sg} {g : GSem nD τ sig} {u : Unit} (h : 0 < owed d σ g u) : u ∈ L g := by
  cases u
  rcases owed_pos h with ⟨x, -, rfl⟩ | ⟨x, -, rfl⟩ | ⟨x, -, rfl⟩ | ⟨x, -, rfl⟩ <;> exact L_tc _ _

/-- What is owed lies above level `n` when every kind of it that is left does. -/
theorem owed_above {d : Dev nD} {σ : Sg} (n : ℕ) (h1 : ∀ x, σ.t x = 0 → n < 2 + pos x) (h2 : n < 20)
    (h3 : ∀ k, σ.b k = false → n < 1) {g : GSem nD τ sig} {u : Unit} (h : 0 < owed d σ g u) : n < lv g u := by
  cases u
  rcases owed_pos h with ⟨x, hx, rfl⟩ | ⟨x, -, rfl⟩ | ⟨k, hk, rfl⟩ | ⟨k, -, rfl⟩
  · rw [lv_recv1]; exact h1 x hx
  · rw [lv_recv2]; exact h2
  · exact h3 k hk
  · exact lt_trans h2 (by rw [lv_exit]; decide)

/-- A device may wait on its cell `sm` while all it owes lies above that cell. -/
theorem mayWait {d : Dev nD} {σ : Sg} (sm : SemLoc sig) (h1 : ∀ x, σ.t x = 0 → semLv sm < 2 + pos x) (h2 : semLv sm < 20)
    (h3 : ∀ k, σ.b k = false → semLv sm < 1) :
    (levAts L lv : sProp 𝕄) ⊢ MayWait (d : Thread nD τ) sm () (owed d σ) :=
  MayOwe.of_cut (L := L) (lev := lv) (semLv sm) (fun p hp => by rw [Finset.mem_singleton.mp hp]; exact L_tc _ _)
    (fun g u hg => owed_L hg) (fun p hp => by rw [Finset.mem_singleton.mp hp]; exact le_refl _)
    (fun g u hg => owed_above _ h1 h2 h3 hg)

/-- Once every send and every entry signal is made, a device may wait on cells below the exit barrier. -/
theorem mayWait_late {d : Dev nD} {σ : Sg} (sm : SemLoc sig) (h1 : ∀ x, σ.t x ≠ 0) (h2 : ∀ x, σ.u x ≠ 0) (h3 : ∀ k, σ.b k = true)
    (h : semLv sm < 30) :
    (levAts L lv : sProp 𝕄) ⊢ MayWait (d : Thread nD τ) sm () (owed d σ) :=
  MayOwe.of_cut (L := L) (lev := lv) (semLv sm) (fun p hp => by rw [Finset.mem_singleton.mp hp]; exact L_tc _ _)
    (fun g u hg => owed_L hg) (fun p hp => by rw [Finset.mem_singleton.mp hp]; exact le_refl _)
    (fun g u hg => by
      cases u
      rcases owed_pos hg with ⟨x, hx, -⟩ | ⟨x, hx, -⟩ | ⟨k, hk, -⟩ | ⟨k, -, rfl⟩
      · exact absurd hx (h1 x)
      · exact absurd hx (h2 x)
      · rw [h3 k] at hk; cases hk
      · exact h)

/-- With every copy started and every signal given, nothing is owed. -/
theorem owed_none {d : Dev nD} {σ : Sg} (h1 : ∀ x, σ.t x ≠ 0) (h2 : ∀ x, σ.u x ≠ 0) (h3 : ∀ k, σ.b k = true) (h4 : ∀ k, σ.e k = true) :
    owed d σ = 0 := by
  unfold owed
  simp [h1, h2, h3, h4]

end Cert.KernelIdeal.Rs
-- ==== Proof.Ideal.Steps.lean ====
/-
  What a device holds at each moment of the kernel, and one lemma per kind of operation: from the state before it the
  operation runs, and the program goes on from the state after it.
-/
module

public import proofs.«01_k».proof.Proof.Ideal.Sched

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a variant. -/
abbrev 𝒱₀ : Variants := Variants.none

/-! ## One member of a family -/

section Family
variable {A B : Type} [Fintype A] [DecidableEq A] {M : Type} [URA M]

/-- A family with one member taken out. -/
theorem fam_out (Φ : A → B → sProp M) (f : A → B) (x : A) {v : B} (h : f x = v) :
    bigSep Finset.univ (fun y => Φ y (f y)) = iprop(Φ x v ∗ bigSep (Finset.univ.erase x) (fun y => Φ y (f y))) := by
  subst h; exact bigSep_erase (Φ := fun y => Φ y (f y)) (Finset.mem_univ x)
/-- The member put back at another status. -/
theorem fam_in (Φ : A → B → sProp M) (f : A → B) (x : A) (v : B) :
    iprop(Φ x v ∗ bigSep (Finset.univ.erase x) (fun y => Φ y (f y))) = bigSep Finset.univ (fun y => Φ y (Function.update f x v y)) := by
  rw [fam_out Φ (Function.update f x v) x (Function.update_self x v f)]
  refine congrArg _ (bigSep_congr fun y hy => ?_)
  rw [Function.update_of_ne (Finset.ne_of_mem_erase hy)]
end Family

/-! ## Cells, as sets -/

/-- The semaphores a device's own cells of the kernel lie on, beside the entry barrier's. -/
def osem : Option (Fin 4 × K) → SemLoc sig
  | none => .reg exitS
  | some p => .dma (dsem p.1 p.2)
/-- Different numbers are different semaphores. -/
theorem osem_inj : Function.Injective osem := by
  rintro (_ | ⟨k, x⟩) (_ | ⟨k', x'⟩) h
  · rfl
  · cases h
  · cases h
  · obtain ⟨rfl, rfl⟩ := dsem_inj (SemLoc.dma.inj h); rfl
/-- The first barriers, one for each device. -/
def barEmb : Dev nD ↪ GSem nD τ sig := ⟨bar, fun a b h => by injection h with h1 _; injection h1⟩
/-- The kernel's own semaphores: of each device its last barrier and its copy semaphores. -/
def scEmb : Dev nD × Option (Fin 4 × K) ↪ GSem nD τ sig :=
  ⟨fun p => ((p.1 : Thread nD τ), osem p.2), fun a b h => by
    injection h with h1 h2; injection h1 with h1; exact Prod.ext h1 (osem_inj h2)⟩
/-- All first barriers. -/
def barCells : Finset (GSem nD τ sig) := Finset.univ.map barEmb
/-- All of the kernel's own semaphores. -/
def scCells : Finset (GSem nD τ sig) := Finset.univ.map scEmb
/-- A first barrier is among the semaphores. -/
theorem mem_bar (d : Dev nD) : bar d ∈ barCells ∪ scCells := Finset.mem_union_left _ (Finset.mem_map_of_mem barEmb (Finset.mem_univ d))
/-- A last barrier is among the semaphores. -/
theorem mem_exit (d : Dev nD) : exit d ∈ barCells ∪ scCells := Finset.mem_union_right _ (Finset.mem_map_of_mem scEmb (Finset.mem_univ (d, none)))
/-- A copy semaphore is among the semaphores. -/
theorem mem_dma (k : Fin 4) (d : Dev nD) (x : K) : dcell k d x ∈ barCells ∪ scCells :=
  Finset.mem_union_right _ (Finset.mem_map_of_mem scEmb (Finset.mem_univ (d, some (k, x))))

variable (P : Prods F) (κ : GSem nD τ sig → ℕ)

/-- What everyone may consult: every cell's invariant, that every entry barrier is at round 0, the levels. -/
def records : sProp 𝕄 :=
  iprop((bigSep (barCells ∪ scCells) fun g => cellInv ER (Rd P) (κ g) g) ∗ (bigSep barCells fun g => reached ER g 0) ∗ (levAts L lv : sProp 𝕄))
/-- The records may be used again and again. -/
instance records_persistent : BI.Persistent (records P κ) := by unfold records; infer_instance

/-- The records hold every semaphore's invariant. -/
theorem records_inv {g : GSem nD τ sig} (h : g ∈ barCells ∪ scCells) : records P κ ⊢ cellInv ER (Rd P) (κ g) g := by
  unfold records
  iintro ⟨H, -⟩
  iapply (show bigSep (barCells ∪ scCells) (fun g => cellInv ER (Rd P) (κ g) g) ⊢ cellInv ER (Rd P) (κ g) g from bigSep_elim h) $$ H
/-- The records say that every first barrier is in its first round. -/
theorem records_bar (d : Dev nD) : records P κ ⊢ reached ER (bar d) 0 := by
  unfold records
  iintro ⟨-, H, -⟩
  iapply (show bigSep barCells (fun g => (reached ER g 0 : sProp 𝕄)) ⊢ reached ER (bar d) 0 from
    bigSep_elim (Finset.mem_map_of_mem barEmb (Finset.mem_univ d))) $$ H
/-- The records hold the levels. -/
theorem records_lev : records P κ ⊢ (levAts L lv : sProp 𝕄) := by
  unfold records
  iintro ⟨-, -, H⟩
  iexact H

/-! ## The state of one item -/

/-- The source of the ring's first sends: the left half of a piece of the product. -/
def pSrc (d : Dev nD) (x : K) : sProp 𝕄 := if x.1 = 0 then pP d (rowB d 0) x.2 qL (P d) else iprop(emp)

/-- A send along the ring: to do, in flight, waited for. -/
def ts (d : Dev nD) (x : K) : Fin 3 → sProp 𝕄
  | 0 => iprop(dutyTok ER (dcell 0 d x) 0 0 ∗ dutyTok ER (dcell 1 (zn d) x) 0 0 ∗ atPos ER (dcell 0 d x) 0 ∅ 0 ∗ reached ER (dcell 0 d x) 0
      ∗ (∃ f, rP (zn d) x f) ∗ reached ER (dcell 1 (zn d) x) 0 ∗ pSrc P d x)
  | 1 => iprop(cred (tallyAt (dcell 0 d x) () N) ∗ atPos ER (dcell 0 d x) 0 ∅ 0)
  | 2 => iprop(atPos ER (dcell 0 d x) 1 ∅ 0 ∗ pSrc P d x)
/-- A receive along the ring: awaited, landed. -/
def rs (d : Dev nD) (x : K) : Bool → sProp 𝕄
  | false => iprop(cred (tallyAt (dcell 1 d x) () N) ∗ atPos ER (dcell 1 d x) 0 ∅ 0)
  | true => iprop(atPos ER (dcell 1 d x) 1 ∅ 0 ∗ rP d x (recvC P d))
/-- A chunk of the send buffer: at anything, at the sum of step 1, of step 2, lent. -/
def sbs (d : Dev nD) (c : Fin 4) : Fin 4 → sProp 𝕄
  | 0 => iprop(∃ f, sP d c f)
  | 1 => sP d c (sbufC P 1 d)
  | 2 => sP d c (sbufC P 2 d)
  | 3 => iprop(emp)
/-- The share of an own finished piece that the copy to peer `j` borrows. -/
abbrev third (d : Dev nD) (c : Fin 4) (j : Fin 3) : sProp 𝕄 := oP d (fb d) c (q3 j) (outC P d)
/-- An own piece of the output: at anything, finished with all its shares, with the shares of the later peers. -/
def os (d : Dev nD) (c : Fin 4) : Fin 5 → sProp 𝕄
  | 0 => iprop(∃ f, oP d (fb d) c fullShare f)
  | 1 => iprop(third P d c 0 ∗ third P d c 1 ∗ third P d c 2 ∗ emp)
  | 2 => iprop(third P d c 1 ∗ third P d c 2 ∗ emp)
  | 3 => iprop(third P d c 2 ∗ emp)
  | 4 => iprop(emp)
/-- A send of the gather: to do, in flight, waited for. -/
def us (d : Dev nD) (x : K) : Fin 3 → sProp 𝕄
  | 0 => iprop(dutyTok ER (dcell 2 d x) 0 0 ∗ dutyTok ER (dcell 3 (peer x.1 d) x) 0 0 ∗ atPos ER (dcell 2 d x) 0 ∅ 0 ∗ reached ER (dcell 2 d x) 0
      ∗ (∃ f, oP (peer x.1 d) (fb d) x.2 fullShare f) ∗ reached ER (dcell 3 (peer x.1 d) x) 0)
  | 1 => iprop(cred (tallyAt (dcell 2 d x) () N) ∗ atPos ER (dcell 2 d x) 0 ∅ 0)
  | 2 => iprop(atPos ER (dcell 2 d x) 1 ∅ 0 ∗ third P d x.2 x.1)
/-- A receive of the gather: awaited, landed. -/
def vs (d : Dev nD) (x : K) : Bool → sProp 𝕄
  | false => iprop(cred (tallyAt (dcell 3 d x) () N) ∗ atPos ER (dcell 3 d x) 0 ∅ 0)
  | true => iprop(atPos ER (dcell 3 d x) 1 ∅ 0 ∗ oP d (fb (peer x.1 d)) x.2 fullShare (outC P d))
/-- A signal of the exit barrier: to do, done. -/
def es (d : Dev nD) (k : Fin 5) : Bool → sProp 𝕄
  | false => iprop(dutyTok ER (exit (nb k d)) 0 k ∗ reached ER (exit (nb k d)) 0)
  | true => iprop(emp)
/-- A signal of the entry barrier: to do, done. -/
def bs (d : Dev nD) (k : Fin 5) : Bool → sProp 𝕄
  | false => iprop(dutyTok ER (bar (nb k d)) 0 k ∗ barPay (nb k d) k)
  | true => iprop(emp)

/-- The right half of the product, which the loads read. -/
abbrev pHalf (d : Dev nD) : sProp 𝕄 := pB.view.loc (d : Thread nD τ) ↦[Finset.univ]{qR} P d
/-- The pieces of the left half that are no send's source. -/
def pRest (d : Dev nD) : sProp 𝕄 :=
  bigSep ((Finset.univ : Finset (Fin 4)).erase (rowB d 0)) fun r => bigSep Finset.univ fun c : Fin 4 => pP d r c qL (P d)

/-- What stays as it is while the kernel sends and receives. -/
def still (d : Dev nD) : sProp 𝕄 := iprop(pRest P d ∗ cred (tallyAt (exit d) () 5) ∗ atPos ER (exit d) 0 ∅ 0 ∗ atPos ER (bar d) 1 ∅ 0)

/-- What device `d` holds past the entry barrier, at status `σ`. -/
def St (d : Dev nD) (σ : Sg) : sProp 𝕄 :=
  iprop(records P κ ∗ pHalf P d
    ∗ (bigSep Finset.univ fun x => ts P d x (σ.t x)) ∗ (bigSep Finset.univ fun x => rs P d x (σ.r x))
    ∗ (bigSep Finset.univ fun c => sbs P d c (σ.s c)) ∗ (bigSep Finset.univ fun c => os P d c (σ.o c))
    ∗ (bigSep Finset.univ fun x => us P d x (σ.u x)) ∗ (bigSep Finset.univ fun x => vs P d x (σ.v x))
    ∗ (bigSep Finset.univ fun k => es d k (σ.e k))
    ∗ still P d ∗ ∃ W, owes (d : Thread nD τ) (owed d σ) W)

/-! ## The operations -/

variable {P κ}
variable {d : Dev nD} {σ : Sg} {α : Type}
  {k : PUnit → Prog (TpuEff nD τ sig (Elt F) Λ₀ .tc) α}

/-- What runs from a state: the program, on device `d`. -/
abbrev Run (d : Dev nD) (p : Prog (TpuEff nD τ sig (Elt F) Λ₀ .tc) α) (Q : α → sProp 𝕄) : sProp 𝕄 :=
  wp frame (wpE (defs₀ (F := F)) 𝒱₀ (d : Thread nD τ) none) Set.univ p Q

/-- A wait for a transfer cell's one duty: the owner's position moves on and what the duty hands over arrives. -/
theorem wait_dma {Ψ : α → sProp 𝕄} (t : Fin 4) (x : K) {sp' : Space} {s' : Shape} {e' : EltTy} {src : Memref sig .tc sp' s' e'}
    {dst : Memref sig .tc .vmem S512x512 .f32} {e1 : src.view.WordExact} {e2 : dst.view.WordExact} {O : CellTallies nD τ sig Unit} {W : Waits sig Unit} :
    iprop(records P κ ∗ (cred (tallyAt (dcell t d x) () N) ∗ atPos ER (dcell t d x) 0 ∅ 0) ∗ MayWait (d : Thread nD τ) (.dma (dsem t x)) () O
        ∗ owes (d : Thread nD τ) O W)
      ⊢ iprop(((∃ W, owes (d : Thread nD τ) O W) ∗ atPos ER (dcell t d x) 1 ∅ 0 ∗ dmaPay P d t x -∗ Run d (k ⟨⟩) Ψ)
        -∗ Run d (.op (.waitDma2 (dsem t x) src dst e1 e2) k) Ψ) := by
  iintro ⟨#HR, ⟨Hc, Ha⟩, Hm, HO⟩ Hk
  iapply (Rounds.wp_wait_rest_token 𝒱₀ ER (Rd P) (d : Thread nD τ) none (κ := κ (dcell t d x))
      (w := .waitDma2 (dsem t x) src dst e1 e2) (sm := .dma (dsem t x)) (k' := N)
      (fun _ => rfl) (Set.mem_univ _) () (O := O) (W := W) (R := 0) (m := 0) (T := ∅)
      ((Nat.zero_add _).trans (expect_dma P t d x).symm)) $$ [Hc HO Ha Hm]
  · isplitr; · iapply (records_inv P κ (mem_dma t d x)) $$ HR
    isplitl [Hc]; · iexact Hc
    isplitl [HO]; · iexact HO
    isplitl [Hm]; · iexact Hm
    iexact Ha
  iintro ⟨HO, Ha, -, Hpay⟩
  ihave Hp := (Entails.of_eq (rest_dma P t d x)) $$ Hpay
  iapply Hk
  isplitl [HO]; · iexists _; iexact HO
  isplitl [Ha]; · iexact Ha
  iexact Hp

/-- A remote copy of one block: the right to wait for its source comes back, and less is owed. -/
theorem send_dma {Ψ : α → sProp 𝕄} (t t' : Fin 4) (x : K) (d' : Dev nD)
    {src dst : Memref sig .tc .vmem S512x512 .f32} {hsc : dst.view.ref.isScScratch = false}
    {e1 : src.view.WordExact} {e2 : dst.view.WordExact} {e3} {q : PosShare TreeShare}
    {fs : Buf (Elt F) (src.view.loc (d : Thread nD τ))} {fd : Buf (Elt F) (dst.view.loc (d' : Thread nD τ))}
    {O₀ : CellTallies nD τ sig Unit} (O : CellTallies nD τ sig Unit) (hO : O₀ = O + tallyAt (dcell t' d' x) () N) {W : Waits sig Unit}
    (h1 : (src.view.loc (d : Thread nD τ) ↦[src.view.set]{q} fs) ⊢ dmaPay P d t x)
    (h2 : (dst.view.loc (d' : Thread nD τ) ↦[dst.view.set]{fullShare} (dst.view.write (Elt F) fd (src.view.read (Elt F) fs) Finset.univ))
      ⊢ dmaPay P d' t' x) :
    iprop(records P κ ∗ (src.view.loc (d : Thread nD τ) ↦[src.view.set]{q} fs) ∗ (dst.view.loc (d' : Thread nD τ) ↦[dst.view.set]{fullShare} fd)
        ∗ owes (d : Thread nD τ) O₀ W ∗ dutyTok ER (dcell t d x) 0 0 ∗ reached ER (dcell t d x) 0
        ∗ dutyTok ER (dcell t' d' x) 0 0 ∗ reached ER (dcell t' d' x) 0)
      ⊢ iprop((cred (tallyAt (dcell t d x) () N) ∗ owes (d : Thread nD τ) O W -∗ Run d (k ⟨⟩) Ψ)
        -∗ Run d (.op (.enqueueDma src (.remote (Dev.tc d') dst (.dma (dsem t x)) hsc) (.dma (dsem t' x)) e1 e2 e3) k) Ψ) := by
  iintro ⟨#HR, Hs, Hd, HO, Ht, Hr, Ht', Hr'⟩ Hk
  iapply (Rounds.wp_send_pointsTo 𝒱₀ ER (Rd P) (d : Thread nD τ) none (c' := (d' : Thread nD τ)) (src := src) (dst := dst)
      (sS := .dma (dsem t x)) (sem := .dma (dsem t' x)) (q := q) (fs := fs) (κ₁ := κ (dcell t d x)) (κ₂ := κ (dcell t' d' x))
      (r₁ := 0) (r₂ := 0) (d₁ := 0) (d₂ := 0) (fd := fd)
      (by rw [duties_dma]; exact Finset.mem_singleton_self _) (by rw [duties_dma]; exact Finset.mem_singleton_self _)
      () () N rfl rfl rfl O hO
      (by rw [payload_dma]; exact h1) (by rw [payload_dma]; exact h2)) $$ [Hs Hd HO Ht Hr Ht' Hr']
  · isplitr; · iapply (records_inv P κ (mem_dma t d x)) $$ HR
    isplitr; · iapply (records_inv P κ (mem_dma t' d' x)) $$ HR
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro H
  iapply Hk
  iexact H

/-- The leavings are at the lowest level. -/
theorem lv_sem (t : Fin 4) (x : K) (h : t = 0 ∨ t = 2) : semLv (.dma (dsem t x)) = 0 := by
  rcases h with rfl | rfl
  · exact lv_send1 0 x
  · exact lv_send2 0 x
/-- The landings in the plane lie below the last barrier. -/
theorem lv_recv2_lt (x : K) : semLv (.dma (dsem 3 x)) < 30 := by
  rw [show semLv (.dma (dsem 3 x)) = 20 from lv_recv2 0 x]; decide
/-- Past the first barrier a leaving may be waited for. -/
theorem mayWait_send {sm : SemLoc sig} (hb : ∀ k, σ.b k = true) (h : semLv sm = 0) :
    (levAts L lv : sProp 𝕄) ⊢ MayWait (d : Thread nD τ) sm () (owed d σ) :=
  mayWait sm (fun x _ => by omega) (by omega) fun k hk => by rw [hb k] at hk; cases hk
/-- A hop's landing may be waited for once no hop before it is unstarted. -/
theorem mayWait_recv1 (x : K) (hb : ∀ k, σ.b k = true) (hpos : ∀ y, σ.t y = 0 → pos x < pos y) :
    (levAts L lv : sProp 𝕄) ⊢ MayWait (d : Thread nD τ) (.dma (dsem 1 x)) () (owed d σ) := by
  have e : semLv (.dma (dsem 1 x)) = 2 + pos x := lv_recv1 0 x
  have hp : pos x < 12 := (by decide : ∀ x : K, pos x < 12) x
  exact mayWait _ (fun y hy => by rw [e]; exact Nat.add_lt_add_left (hpos y hy) 2) (by omega) fun k hk => by rw [hb k] at hk; cases hk

/-- A signal of the exit barrier. -/
theorem step_exit_signal {Ψ : α → sProp 𝕄} (j : Fin 5) {dst : Dev nD} (hdst : dst = nb j d)
    (h : σ.e j = false)
    (hk : St P κ d (σ.setE j) ⊢ Run d (k ⟨⟩) Ψ) :
    St P κ d σ ⊢ Run d (semSignalWord dst exitS 1#32 >>= k) Ψ := by
  subst hdst
  change _ ⊢ Run d (.op (.semSignal ((nb j d : Dev nD) : Thread nD τ) exitS 1) k) _
  unfold St
  rw [fam_out (es d) σ.e j h]
  iintro ⟨#HR, Hp, Ht, Hr, Hs, Ho, Hu, Hv, ⟨Hi, He⟩, Hst, ⟨%W, HO⟩⟩
  ihave Hi := (show es (F := F) d j false ⊢ iprop(dutyTok ER (exit (nb j d)) 0 j ∗ reached ER (exit (nb j d)) 0) from .rfl) $$ Hi
  icases Hi with ⟨Htok, Hrch⟩
  iapply (Rounds.wp_signal 𝒱₀ ER (Rd P) (d : Thread nD τ) none (dst := (nb j d : Thread nD τ)) (sem := exitS) (r := 0) (d := j) (κ := κ (exit (nb j d)))
      (by rw [duties_exit]; exact Finset.mem_univ j) rfl () (owed d (σ.setE j)) (owed_e d σ j h)) $$ [HO Htok Hrch]
  · isplitr; · iapply (records_inv P κ (mem_exit (nb j d))) $$ HR
    isplitl [HO]; · iexact HO
    isplitl [Htok]; · iexact Htok
    isplitr; · rw [payload_exit]; iempintro
    iexact Hrch
  iintro HO
  iapply hk
  unfold St Sg.setE
  dsimp only
  rw [← fam_in (es d) σ.e j true]
  isplitr; · iexact HR
  isplitl [Hp]; · iexact Hp
  isplitl [Ht]; · iexact Ht
  isplitl [Hr]; · iexact Hr
  isplitl [Hs]; · iexact Hs
  isplitl [Ho]; · iexact Ho
  isplitl [Hu]; · iexact Hu
  isplitl [Hv]; · iexact Hv
  isplitl [He]
  · isplitl []
    · unfold es; iempintro
    iexact He
  isplitl [Hst]; · iexact Hst
  iexists _; iexact HO

/-- A first send along the ring, of a piece of the product. -/
theorem step_send_p {Ψ : α → sProp 𝕄} (c : Fin 4) {src dst : Memref sig .tc .vmem S512x512 .f32} {d' : Dev nD} {s1 s2 : DmaSem sig} {hsc : dst.view.ref.isScScratch = false}
    {e1 : src.view.WordExact} {e2 : dst.view.WordExact} {e3}
    (hd : d' = zn d) (hs1 : s1 = dsem 0 (0, c)) (hs2 : s2 = dsem 1 (0, c)) (hsrc : src = pM (rowB d 0) c) (hdst : dst = rM (0, c))
    (h : σ.t (0, c) = 0)
    (hk : St P κ d (σ.setT (0, c) 1) ⊢ Run d (k ⟨⟩) Ψ) :
    St P κ d σ ⊢ Run d (Prog.lift (.enqueueDma src (.remote (Dev.tc d') dst (.dma s1) hsc) (.dma s2) e1 e2 e3) >>= k) Ψ := by
  subst hd hs1 hs2 hsrc hdst
  change _ ⊢ Run d (.op (.enqueueDma _ (.remote (Dev.tc _) _ _ _) _ _ _ _) k) _
  unfold St
  rw [fam_out (ts P d) σ.t (0, c) h]
  iintro ⟨#HR, Hp, ⟨Hi, Ht⟩, Hr, Hs, Ho, Hu, Hv, He, Hst, ⟨%W, HO⟩⟩
  ihave Hi := (show ts P d (0, c) 0 ⊢ iprop(dutyTok ER (dcell 0 d (0, c)) 0 0 ∗ dutyTok ER (dcell 1 (zn d) (0, c)) 0 0 ∗ atPos ER (dcell 0 d (0, c)) 0 ∅ 0
      ∗ reached ER (dcell 0 d (0, c)) 0 ∗ (∃ f, rP (zn d) (0, c) f) ∗ reached ER (dcell 1 (zn d) (0, c)) 0 ∗ pSrc P d (0, c)) from .rfl) $$ Hi
  icases Hi with ⟨Ht1, Ht2, Ha, Hr1, ⟨%fd, Hd⟩, Hr2, Hsrc⟩
  ihave Hsrc := (show pSrc P d (0, c) ⊢ pP d (rowB d 0) c qL (P d) from by unfold pSrc; rw [if_pos rfl]) $$ Hsrc
  iapply (send_dma (P := P) (κ := κ) 0 1 (0, c) (zn d) (q := qL) (fs := P d) (fd := fd) (owed d (σ.setT (0, c) 1)) (owed_t d σ (0, c) h)
      (by unfold dmaPay; dsimp only; rw [if_pos rfl])
      (Entails.of_eq (pointsTo_congr (land0 P d c fd)))) $$ [Hsrc Hd HO Ht1 Hr1 Ht2 Hr2]
  · isplitr; · iexact HR
    isplitl [Hsrc]; · iexact Hsrc
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply hk
  unfold St Sg.setT
  dsimp only
  rw [← fam_in (ts P d) σ.t (0, c) 1]
  isplitr; · iexact HR
  isplitl [Hp]; · iexact Hp
  isplitl [Hc Ha Ht]
  · isplitl [Hc Ha]
    · unfold ts; isplitl [Hc] <;> iassumption
    iexact Ht
  isplitl [Hr]; · iexact Hr
  isplitl [Hs]; · iexact Hs
  isplitl [Ho]; · iexact Ho
  isplitl [Hu]; · iexact Hu
  isplitl [Hv]; · iexact Hv
  isplitl [He]; · iexact He
  isplitl [Hst]; · iexact Hst
  iexists W; iexact HO

/-- A later send along the ring, of a chunk of the send buffer. -/
theorem step_send_s {Ψ : α → sProp 𝕄} (x : K) (w : Fin 4) (hx : x.1 ≠ 0) {src dst : Memref sig .tc .vmem S512x512 .f32} {d' : Dev nD} {s1 s2 : DmaSem sig} {hsc : dst.view.ref.isScScratch = false}
    {e1 : src.view.WordExact} {e2 : dst.view.WordExact} {e3}
    (hd : d' = zn d) (hs1 : s1 = dsem 0 x) (hs2 : s2 = dsem 1 x) (hsrc : src = sM x.2) (hdst : dst = rM x)
    (hw : ∀ c, sbs P d c w = sP d c (sbufC P x.1.val d)) (h : σ.t x = 0) (h' : σ.s x.2 = w)
    (hk : St P κ d ((σ.setS x.2 3).setT x 1) ⊢ Run d (k ⟨⟩) Ψ) :
    St P κ d σ ⊢ Run d (Prog.lift (.enqueueDma src (.remote (Dev.tc d') dst (.dma s1) hsc) (.dma s2) e1 e2 e3) >>= k) Ψ := by
  subst hd hs1 hs2 hsrc hdst
  change _ ⊢ Run d (.op (.enqueueDma _ (.remote (Dev.tc _) _ _ _) _ _ _ _) k) _
  unfold St
  rw [fam_out (ts P d) σ.t x h]
  rw [fam_out (sbs P d) σ.s x.2 h']
  rw [hw]
  iintro ⟨#HR, Hp, ⟨Hi, Ht⟩, Hr, ⟨Hsrc, Hs⟩, Ho, Hu, Hv, He, Hst, ⟨%W, HO⟩⟩
  ihave Hi := (show ts P d x 0 ⊢ iprop(dutyTok ER (dcell 0 d x) 0 0 ∗ dutyTok ER (dcell 1 (zn d) x) 0 0 ∗ atPos ER (dcell 0 d x) 0 ∅ 0
      ∗ reached ER (dcell 0 d x) 0 ∗ (∃ f, rP (zn d) x f) ∗ reached ER (dcell 1 (zn d) x) 0 ∗ pSrc P d x) from .rfl) $$ Hi
  icases Hi with ⟨Ht1, Ht2, Ha, Hr1, ⟨%fd, Hd⟩, Hr2, -⟩
  iapply (send_dma (P := P) (κ := κ) 0 1 x (zn d) (q := fullShare) (fs := sbufC P x.1.val d) (fd := fd) (owed d ((σ.setS x.2 3).setT x 1)) (owed_t d (σ.setS x.2 3) x h)
      (by unfold dmaPay; dsimp only; rw [if_neg hx])
      (Entails.of_eq (pointsTo_congr (landS P d x fd)))) $$ [Hsrc Hd HO Ht1 Hr1 Ht2 Hr2]
  · isplitr; · iexact HR
    isplitl [Hsrc]; · iexact Hsrc
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply hk
  unfold St Sg.setT Sg.setS
  dsimp only
  rw [← fam_in (ts P d) σ.t x 1]
  rw [← fam_in (sbs P d) σ.s x.2 3]
  isplitr; · iexact HR
  isplitl [Hp]; · iexact Hp
  isplitl [Hc Ha Ht]
  · isplitl [Hc Ha]
    · unfold ts; isplitl [Hc] <;> iassumption
    iexact Ht
  isplitl [Hr]; · iexact Hr
  isplitl [Hs]
  · isplitl []
    · unfold sbs; iempintro
    iexact Hs
  isplitl [Ho]; · iexact Ho
  isplitl [Hu]; · iexact Hu
  isplitl [Hv]; · iexact Hv
  isplitl [He]; · iexact He
  isplitl [Hst]; · iexact Hst
  iexists W; iexact HO

/-- A send of the gather, of a finished piece. -/
theorem step_send_o {Ψ : α → sProp 𝕄} (x : K) (w : Fin 5) (w' : Fin 5) {src dst : Memref sig .tc .vmem S512x512 .f32} {d' : Dev nD} {s1 s2 : DmaSem sig} {hsc : dst.view.ref.isScScratch = false}
    {e1 : src.view.WordExact} {e2 : dst.view.WordExact} {e3}
    (hd : d' = peer x.1 d) (hs1 : s1 = dsem 2 x) (hs2 : s2 = dsem 3 x) (hsrc : src = oM (fb d) x.2) (hdst : dst = oM (fb d) x.2)
    (hw : ∀ c, os P d c w = iprop(third P d c x.1 ∗ os P d c w')) (h : σ.u x = 0) (h' : σ.o x.2 = w)
    (hk : St P κ d ((σ.setO x.2 w').setU x 1) ⊢ Run d (k ⟨⟩) Ψ) :
    St P κ d σ ⊢ Run d (Prog.lift (.enqueueDma src (.remote (Dev.tc d') dst (.dma s1) hsc) (.dma s2) e1 e2 e3) >>= k) Ψ := by
  subst hd hs1 hs2 hsrc hdst
  change _ ⊢ Run d (.op (.enqueueDma _ (.remote (Dev.tc _) _ _ _) _ _ _ _) k) _
  unfold St
  rw [fam_out (us P d) σ.u x h]
  rw [fam_out (os P d) σ.o x.2 h']
  rw [hw]
  iintro ⟨#HR, Hp, Ht, Hr, Hs, ⟨Hsrc, Ho⟩, ⟨Hi, Hu⟩, Hv, He, Hst, ⟨%W, HO⟩⟩
  icases Hsrc with ⟨Hsrc, Hrest⟩
  ihave Hi := (show us P d x 0 ⊢ iprop(dutyTok ER (dcell 2 d x) 0 0 ∗ dutyTok ER (dcell 3 (peer x.1 d) x) 0 0 ∗ atPos ER (dcell 2 d x) 0 ∅ 0
      ∗ reached ER (dcell 2 d x) 0 ∗ (∃ f, oP (peer x.1 d) (fb d) x.2 fullShare f) ∗ reached ER (dcell 3 (peer x.1 d) x) 0) from .rfl) $$ Hi
  icases Hi with ⟨Ht1, Ht2, Ha, Hr1, ⟨%fd, Hd⟩, Hr2⟩
  iapply (send_dma (P := P) (κ := κ) 2 3 x (peer x.1 d) (q := q3 x.1) (fs := outC P d) (fd := fd) (owed d ((σ.setO x.2 w').setU x 1)) (owed_u d (σ.setO x.2 w') x h)
      (by unfold dmaPay; exact .rfl)
      (by unfold dmaPay; dsimp only; rw [peer_peer]; exact Entails.of_eq (pointsTo_congr (landO P d x.1 x.2 fd)))) $$ [Hsrc Hd HO Ht1 Hr1 Ht2 Hr2]
  · isplitr; · iexact HR
    isplitl [Hsrc]; · iexact Hsrc
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply hk
  unfold St Sg.setU Sg.setO
  dsimp only
  rw [← fam_in (us P d) σ.u x 1]
  rw [← fam_in (os P d) σ.o x.2 w']
  isplitr; · iexact HR
  isplitl [Hp]; · iexact Hp
  isplitl [Ht]; · iexact Ht
  isplitl [Hr]; · iexact Hr
  isplitl [Hs]; · iexact Hs
  isplitl [Hrest Ho]
  · isplitl [Hrest]
    · iexact Hrest
    iexact Ho
  isplitl [Hc Ha Hu]
  · isplitl [Hc Ha]
    · unfold us; isplitl [Hc] <;> iassumption
    iexact Hu
  isplitl [Hv]; · iexact Hv
  isplitl [He]; · iexact He
  isplitl [Hst]; · iexact Hst
  iexists W; iexact HO

/-- A wait for a block of the ring to land. -/
theorem step_wait_r {Ψ : α → sProp 𝕄} (x : K) {sp' : Space} {s' : Shape} {e' : EltTy} {src : Memref sig .tc sp' s' e'} {dst : Memref sig .tc .vmem S512x512 .f32}
    {sm : DmaSem sig} {e1 : src.view.WordExact} {e2 : dst.view.WordExact}
    (hsm : sm = dsem 1 x) (hb : ∀ k, σ.b k = true) (hpos : ∀ y, σ.t y = 0 → pos x < pos y) (h : σ.r x = false)
    (hk : St P κ d (σ.setR x) ⊢ Run d (k ⟨⟩) Ψ) :
    St P κ d σ ⊢ Run d (Prog.lift (.waitDma2 sm src dst e1 e2) >>= k) Ψ := by
  subst hsm
  change _ ⊢ Run d (.op (.waitDma2 _ _ _ _ _) k) _
  unfold St
  rw [fam_out (rs P d) σ.r x h]
  iintro ⟨#HR, Hp, Ht, ⟨Hi, Hr⟩, Hs, Ho, Hu, Hv, He, Hst, ⟨%W, HO⟩⟩
  ihave Hi := (show rs P d x false ⊢ iprop(cred (tallyAt (dcell 1 d x) () N) ∗ atPos ER (dcell 1 d x) 0 ∅ 0) from .rfl) $$ Hi
  iapply (wait_dma (P := P) (κ := κ) 1 x) $$ [Hi HO]
  · isplitr; · iexact HR
    isplitl [Hi]; · iexact Hi
    isplitr; · iapply (show records P κ ⊢ MayWait (d : Thread nD τ) _ () (owed d σ) from (records_lev P κ).trans (mayWait_recv1 (d := d) (σ := σ) x hb hpos)); iexact HR
    iexact HO
  iintro ⟨HO, Ha, Hpay⟩
  iapply hk
  unfold St Sg.setR
  dsimp only
  rw [← fam_in (rs P d) σ.r x true]
  isplitr; · iexact HR
  isplitl [Hp]; · iexact Hp
  isplitl [Ht]; · iexact Ht
  isplitl [Ha Hpay Hr]
  · isplitl [Ha Hpay]
    · unfold rs; isplitl [Ha]; · iexact Ha
      unfold dmaPay; iexact Hpay
    iexact Hr
  isplitl [Hs]; · iexact Hs
  isplitl [Ho]; · iexact Ho
  isplitl [Hu]; · iexact Hu
  isplitl [Hv]; · iexact Hv
  isplitl [He]; · iexact He
  isplitl [Hst]; · iexact Hst
  iexact HO

/-- A wait for the source of a first send to come back. -/
theorem step_wait_sp {Ψ : α → sProp 𝕄} (c : Fin 4) {sp' : Space} {s' : Shape} {e' : EltTy} {src : Memref sig .tc sp' s' e'} {dst : Memref sig .tc .vmem S512x512 .f32}
    {sm : DmaSem sig} {e1 : src.view.WordExact} {e2 : dst.view.WordExact}
    (hsm : sm = dsem 0 (0, c)) (hb : ∀ k, σ.b k = true) (h : σ.t (0, c) = 1)
    (hk : St P κ d (σ.setT (0, c) 2) ⊢ Run d (k ⟨⟩) Ψ) :
    St P κ d σ ⊢ Run d (Prog.lift (.waitDma2 sm src dst e1 e2) >>= k) Ψ := by
  subst hsm
  change _ ⊢ Run d (.op (.waitDma2 _ _ _ _ _) k) _
  unfold St
  rw [fam_out (ts P d) σ.t (0, c) h]
  iintro ⟨#HR, Hp, ⟨Hi, Ht⟩, Hr, Hs, Ho, Hu, Hv, He, Hst, ⟨%W, HO⟩⟩
  ihave Hi := (show ts P d (0, c) 1 ⊢ iprop(cred (tallyAt (dcell 0 d (0, c)) () N) ∗ atPos ER (dcell 0 d (0, c)) 0 ∅ 0) from .rfl) $$ Hi
  iapply (wait_dma (P := P) (κ := κ) 0 (0, c)) $$ [Hi HO]
  · isplitr; · iexact HR
    isplitl [Hi]; · iexact Hi
    isplitr; · iapply (show records P κ ⊢ MayWait (d : Thread nD τ) _ () (owed d σ) from (records_lev P κ).trans (mayWait_send (d := d) (σ := σ) hb (lv_sem 0 (0, c) (.inl rfl)))); iexact HR
    iexact HO
  iintro ⟨HO, Ha, Hpay⟩
  ihave Hpay := (show dmaPay P d 0 (0, c) ⊢ pSrc P d (0, c) from .rfl) $$ Hpay
  iapply hk
  unfold St Sg.setT
  dsimp only
  rw [← fam_in (ts P d) σ.t (0, c) 2]
  isplitr; · iexact HR
  isplitl [Hp]; · iexact Hp
  isplitl [Ha Hpay Ht]
  · isplitl [Ha Hpay]
    · unfold ts; isplitl [Ha]; · iexact Ha
      iexact Hpay
    iexact Ht
  isplitl [Hr]; · iexact Hr
  isplitl [Hs]; · iexact Hs
  isplitl [Ho]; · iexact Ho
  isplitl [Hu]; · iexact Hu
  isplitl [Hv]; · iexact Hv
  isplitl [He]; · iexact He
  isplitl [Hst]; · iexact Hst
  rw [show owed d σ = owed d (σ.setT (0, c) 2) from (owed_t2 d σ (0, c) h).symm]; iexact HO

/-- A wait for the source of a later send to come back: its chunk of the send buffer is free again. -/
theorem step_wait_ss {Ψ : α → sProp 𝕄} (x : K) (hx : x.1 ≠ 0) {sp' : Space} {s' : Shape} {e' : EltTy} {src : Memref sig .tc sp' s' e'} {dst : Memref sig .tc .vmem S512x512 .f32}
    {sm : DmaSem sig} {e1 : src.view.WordExact} {e2 : dst.view.WordExact}
    (hsm : sm = dsem 0 x) (hb : ∀ k, σ.b k = true) (h : σ.t x = 1) (h' : σ.s x.2 = 3)
    (hk : St P κ d ((σ.setS x.2 0).setT x 2) ⊢ Run d (k ⟨⟩) Ψ) :
    St P κ d σ ⊢ Run d (Prog.lift (.waitDma2 sm src dst e1 e2) >>= k) Ψ := by
  subst hsm
  change _ ⊢ Run d (.op (.waitDma2 _ _ _ _ _) k) _
  unfold St
  rw [fam_out (ts P d) σ.t x h]
  rw [fam_out (sbs P d) σ.s x.2 h']
  iintro ⟨#HR, Hp, ⟨Hi, Ht⟩, Hr, ⟨-, Hs⟩, Ho, Hu, Hv, He, Hst, ⟨%W, HO⟩⟩
  ihave Hi := (show ts P d x 1 ⊢ iprop(cred (tallyAt (dcell 0 d x) () N) ∗ atPos ER (dcell 0 d x) 0 ∅ 0) from .rfl) $$ Hi
  iapply (wait_dma (P := P) (κ := κ) 0 x) $$ [Hi HO]
  · isplitr; · iexact HR
    isplitl [Hi]; · iexact Hi
    isplitr; · iapply (show records P κ ⊢ MayWait (d : Thread nD τ) _ () (owed d σ) from (records_lev P κ).trans (mayWait_send (d := d) (σ := σ) hb (lv_sem 0 x (.inl rfl)))); iexact HR
    iexact HO
  iintro ⟨HO, Ha, Hpay⟩
  ihave Hpay := (show dmaPay P d 0 x ⊢ sP d x.2 (sbufC P x.1.val d) from by unfold dmaPay; dsimp only; rw [if_neg hx]) $$ Hpay
  iapply hk
  unfold St Sg.setT Sg.setS
  dsimp only
  rw [← fam_in (ts P d) σ.t x 2]
  rw [← fam_in (sbs P d) σ.s x.2 0]
  isplitr; · iexact HR
  isplitl [Hp]; · iexact Hp
  isplitl [Ha Ht]
  · isplitl [Ha]
    · unfold ts pSrc; rw [if_neg hx]; isplitl [Ha]; · iexact Ha
      iempintro
    iexact Ht
  isplitl [Hr]; · iexact Hr
  isplitl [Hpay Hs]
  · isplitl [Hpay]
    · unfold sbs; iexists _; iexact Hpay
    iexact Hs
  isplitl [Ho]; · iexact Ho
  isplitl [Hu]; · iexact Hu
  isplitl [Hv]; · iexact Hv
  isplitl [He]; · iexact He
  isplitl [Hst]; · iexact Hst
  rw [show owed d σ = owed d ((σ.setS x.2 0).setT x 2) from (owed_t2 d (σ.setS x.2 0) x h).symm]; iexact HO

/-- A wait for a peer's piece to land. -/
theorem step_wait_v {Ψ : α → sProp 𝕄} (x : K) {sp' : Space} {s' : Shape} {e' : EltTy} {src : Memref sig .tc sp' s' e'} {dst : Memref sig .tc .vmem S512x512 .f32}
    {sm : DmaSem sig} {e1 : src.view.WordExact} {e2 : dst.view.WordExact}
    (hsm : sm = dsem 3 x) (hb : ∀ k, σ.b k = true) (ht : ∀ y, σ.t y ≠ 0) (hu : ∀ y, σ.u y ≠ 0) (h : σ.v x = false)
    (hk : St P κ d (σ.setV x) ⊢ Run d (k ⟨⟩) Ψ) :
    St P κ d σ ⊢ Run d (Prog.lift (.waitDma2 sm src dst e1 e2) >>= k) Ψ := by
  subst hsm
  change _ ⊢ Run d (.op (.waitDma2 _ _ _ _ _) k) _
  unfold St
  rw [fam_out (vs P d) σ.v x h]
  iintro ⟨#HR, Hp, Ht, Hr, Hs, Ho, Hu, ⟨Hi, Hv⟩, He, Hst, ⟨%W, HO⟩⟩
  ihave Hi := (show vs P d x false ⊢ iprop(cred (tallyAt (dcell 3 d x) () N) ∗ atPos ER (dcell 3 d x) 0 ∅ 0) from .rfl) $$ Hi
  iapply (wait_dma (P := P) (κ := κ) 3 x) $$ [Hi HO]
  · isplitr; · iexact HR
    isplitl [Hi]; · iexact Hi
    isplitr; · iapply (show records P κ ⊢ MayWait (d : Thread nD τ) _ () (owed d σ) from (records_lev P κ).trans (mayWait_late (d := d) (σ := σ) _ ht hu hb (lv_recv2_lt x))); iexact HR
    iexact HO
  iintro ⟨HO, Ha, Hpay⟩
  iapply hk
  unfold St Sg.setV
  dsimp only
  rw [← fam_in (vs P d) σ.v x true]
  isplitr; · iexact HR
  isplitl [Hp]; · iexact Hp
  isplitl [Ht]; · iexact Ht
  isplitl [Hr]; · iexact Hr
  isplitl [Hs]; · iexact Hs
  isplitl [Ho]; · iexact Ho
  isplitl [Hu]; · iexact Hu
  isplitl [Ha Hpay Hv]
  · isplitl [Ha Hpay]
    · unfold vs; isplitl [Ha]; · iexact Ha
      unfold dmaPay; iexact Hpay
    iexact Hv
  isplitl [He]; · iexact He
  isplitl [Hst]; · iexact Hst
  iexact HO

/-- A wait for the source of a send of the gather to come back. -/
theorem step_wait_u {Ψ : α → sProp 𝕄} (x : K) {sp' : Space} {s' : Shape} {e' : EltTy} {src : Memref sig .tc sp' s' e'} {dst : Memref sig .tc .vmem S512x512 .f32}
    {sm : DmaSem sig} {e1 : src.view.WordExact} {e2 : dst.view.WordExact}
    (hsm : sm = dsem 2 x) (hb : ∀ k, σ.b k = true) (h : σ.u x = 1)
    (hk : St P κ d (σ.setU x 2) ⊢ Run d (k ⟨⟩) Ψ) :
    St P κ d σ ⊢ Run d (Prog.lift (.waitDma2 sm src dst e1 e2) >>= k) Ψ := by
  subst hsm
  change _ ⊢ Run d (.op (.waitDma2 _ _ _ _ _) k) _
  unfold St
  rw [fam_out (us P d) σ.u x h]
  iintro ⟨#HR, Hp, Ht, Hr, Hs, Ho, ⟨Hi, Hu⟩, Hv, He, Hst, ⟨%W, HO⟩⟩
  ihave Hi := (show us P d x 1 ⊢ iprop(cred (tallyAt (dcell 2 d x) () N) ∗ atPos ER (dcell 2 d x) 0 ∅ 0) from .rfl) $$ Hi
  iapply (wait_dma (P := P) (κ := κ) 2 x) $$ [Hi HO]
  · isplitr; · iexact HR
    isplitl [Hi]; · iexact Hi
    isplitr; · iapply (show records P κ ⊢ MayWait (d : Thread nD τ) _ () (owed d σ) from (records_lev P κ).trans (mayWait_send (d := d) (σ := σ) hb (lv_sem 2 x (.inr rfl)))); iexact HR
    iexact HO
  iintro ⟨HO, Ha, Hpay⟩
  iapply hk
  unfold St Sg.setU
  dsimp only
  rw [← fam_in (us P d) σ.u x 2]
  isplitr; · iexact HR
  isplitl [Hp]; · iexact Hp
  isplitl [Ht]; · iexact Ht
  isplitl [Hr]; · iexact Hr
  isplitl [Hs]; · iexact Hs
  isplitl [Ho]; · iexact Ho
  isplitl [Ha Hpay Hu]
  · isplitl [Ha Hpay]
    · unfold us; isplitl [Ha]; · iexact Ha
      unfold dmaPay; iexact Hpay
    iexact Hu
  isplitl [Hv]; · iexact Hv
  isplitl [He]; · iexact He
  isplitl [Hst]; · iexact Hst
  rw [show owed d σ = owed d (σ.setU x 2) from (owed_u2 d σ x h).symm]; iexact HO

end Cert.KernelIdeal.Rs
-- ==== Proof.Ideal.Access.lean ====
/-
  One lemma per kind of load, store and barrier operation of the kernel: from the state before it the operation runs, and
  the program goes on from the state after it.
-/
module

public import proofs.«01_k».proof.Proof.Ideal.Steps

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Prods F} {κ : GSem nD τ sig → ℕ} {d : Dev nD} {σ : Sg} {α : Type}

/-! ## A load or a store of any buffer -/

/-- An operation followed by the rest of the program, as one tree. -/
theorem lift_bind {β : Type} (e : TpuEff nD τ sig (Elt F) Λ₀ .tc β) (k : β → Prog (TpuEff nD τ sig (Elt F) Λ₀ .tc) α) :
    (Prog.lift e >>= k) = .op e k := rfl

/-- A load from a buffer some part of which is held: the program goes on at what is read, still holding it. -/
theorem load_at {Ψ : α → sProp 𝕄} {Pre : sProp 𝕄} {s : Shape} {e : EltTy} (m : Memref sig .tc .vmem s e) (r : Rect s)
    {hl : m.view.LoadsAt r.toLoadRect} {k : (r.shape.Idx → Elt F e) → Prog (TpuEff nD τ sig (Elt F) Λ₀ .tc) α}
    (S : Finset (Idx ((m.access r).loc (d : Thread nD τ)))) (q : PosShare TreeShare) (C : Buf (Elt F) ((m.access r).loc (d : Thread nD τ)) → Prop)
    (hS : (m.access r).set ⊆ S)
    (hP : Pre ⊢ iprop(∃ f, ⌜C f⌝ ∗ ((m.access r).loc (d : Thread nD τ) ↦[S]{q} f) ∗ (((m.access r).loc (d : Thread nD τ) ↦[S]{q} f) -∗ Pre)))
    (hk : ∀ f, C f → Pre ⊢ Run d (k ((m.access r).read (Elt F) f)) Ψ) :
    Pre ⊢ Run d (Prog.lift (.load m r.toLoadRect hl) >>= k) Ψ := by
  rw [lift_bind]
  refine hP.trans ?_
  iintro ⟨%f, %hf, Hb, Hk⟩
  iapply (wp_load_rect 𝒱₀ (d : Thread nD τ) none Set.univ (m := m) (r := r) (hl := hl) (k := k) (S := S) (q := q) (f := f) hS) $$ [Hb]
  · iexact Hb
  iintro Hb
  iapply (hk f hf)
  iapply Hk
  iexact Hb

/-- A store to a buffer some part of which is held. -/
theorem store_at {Ψ : α → sProp 𝕄} {Pre Post : sProp 𝕄} {s : Shape} {e : EltTy} (m : Memref sig .tc .vmem s e) (r : Rect s)
    {w : r.shape.Idx → Elt F e} {hx : (m.access r).Stores Finset.univ} {hm} {k : PUnit → Prog (TpuEff nD τ sig (Elt F) Λ₀ .tc) α}
    (S : Finset (Idx ((m.access r).loc (d : Thread nD τ)))) (hS : (m.access r).set ⊆ S)
    (hP : Pre ⊢ iprop(∃ f, ((m.access r).loc (d : Thread nD τ) ↦[S]{fullShare} f)
      ∗ (((m.access r).loc (d : Thread nD τ) ↦[S]{fullShare} ((m.access r).write (Elt F) f w Finset.univ)) -∗ Post)))
    (hk : Post ⊢ Run d (k ⟨⟩) Ψ) :
    Pre ⊢ Run d (Prog.lift (.store m r w Finset.univ hx hm) >>= k) Ψ := by
  rw [lift_bind]
  refine hP.trans ?_
  iintro ⟨%f, Hb, Hk⟩
  iapply (wp_store 𝒱₀ (d : Thread nD τ) none Set.univ (m := m) (r := r) (w := w) (Mk := Finset.univ) (hx := hx) (hm := hm) (k := k) (S := S) (f := f) hS) $$ [Hb]
  · iexact Hb
  iintro Hb
  iapply hk
  iapply Hk
  iexact Hb

/-! ## One item of the state, taken out and put back -/

/-- A landed block of the receive buffer. -/
theorem St_r (x : K) (h : σ.r x = true) : St P κ d σ ⊢ iprop(rP d x (recvC P d) ∗ (rP d x (recvC P d) -∗ St P κ d σ)) := by
  unfold St
  rw [fam_out (rs P d) σ.r x h]
  iintro ⟨#HR, Hp, Ht, ⟨Hi, Hr⟩, Hs, Ho, Hu, Hv, He, Hst, HO⟩
  ihave Hi := (show rs P d x true ⊢ iprop(atPos ER (dcell 1 d x) 1 ∅ 0 ∗ rP d x (recvC P d)) from .rfl) $$ Hi
  icases Hi with ⟨Ha, Hb⟩
  isplitl [Hb]; · iexact Hb
  iintro Hb
  isplitr; · iexact HR
  isplitl [Hp]; · iexact Hp
  isplitl [Ht]; · iexact Ht
  isplitl [Ha Hb Hr]
  · isplitl [Ha Hb]
    · unfold rs; isplitl [Ha]; · iexact Ha
      iexact Hb
    iexact Hr
  isplitl [Hs]; · iexact Hs
  isplitl [Ho]; · iexact Ho
  isplitl [Hu]; · iexact Hu
  isplitl [Hv]; · iexact Hv
  isplitl [He]; · iexact He
  isplitl [Hst]; · iexact Hst
  iexact HO
/-- The product's right half. -/
theorem St_p : St P κ d σ ⊢ iprop(pHalf P d ∗ (pHalf P d -∗ St P κ d σ)) := by
  unfold St
  iintro ⟨#HR, Hp, H⟩
  isplitl [Hp]; · iexact Hp
  iintro Hp
  isplitr; · iexact HR
  isplitl [Hp]; · iexact Hp
  iexact H
/-- A chunk of the send buffer, which may change its status. -/
theorem St_s (c : Fin 4) {v : Fin 4} (h : σ.s c = v) : St P κ d σ ⊢ iprop(sbs P d c v ∗ (∀ u, sbs P d c u -∗ St P κ d (σ.setS c u))) := by
  unfold St
  rw [fam_out (sbs P d) σ.s c h]
  iintro ⟨#HR, Hp, Ht, Hr, ⟨Hi, Hs⟩, Ho, Hu, Hv, He, Hst, HO⟩
  isplitl [Hi]; · iexact Hi
  iintro %u Hi
  unfold Sg.setS
  dsimp only
  rw [← fam_in (sbs P d) σ.s c u]
  isplitr; · iexact HR
  isplitl [Hp]; · iexact Hp
  isplitl [Ht]; · iexact Ht
  isplitl [Hr]; · iexact Hr
  isplitl [Hi Hs]
  · isplitl [Hi]; · iexact Hi
    iexact Hs
  isplitl [Ho]; · iexact Ho
  isplitl [Hu]; · iexact Hu
  isplitl [Hv]; · iexact Hv
  isplitl [He]; · iexact He
  isplitl [Hst]; · iexact Hst
  iexact HO
/-- An own piece of the output, which may change its status. -/
theorem St_o (c : Fin 4) {v : Fin 5} (h : σ.o c = v) : St P κ d σ ⊢ iprop(os P d c v ∗ (∀ u, os P d c u -∗ St P κ d (σ.setO c u))) := by
  unfold St
  rw [fam_out (os P d) σ.o c h]
  iintro ⟨#HR, Hp, Ht, Hr, Hs, ⟨Hi, Ho⟩, Hu, Hv, He, Hst, HO⟩
  isplitl [Hi]; · iexact Hi
  iintro %u Hi
  unfold Sg.setO
  dsimp only
  rw [← fam_in (os P d) σ.o c u]
  isplitr; · iexact HR
  isplitl [Hp]; · iexact Hp
  isplitl [Ht]; · iexact Ht
  isplitl [Hr]; · iexact Hr
  isplitl [Hs]; · iexact Hs
  isplitl [Hi Ho]
  · isplitl [Hi]; · iexact Hi
    iexact Ho
  isplitl [Hu]; · iexact Hu
  isplitl [Hv]; · iexact Hv
  isplitl [He]; · iexact He
  isplitl [Hst]; · iexact Hst
  iexact HO
/-- Setting a status to what it is changes nothing. -/
theorem setS_self (c : Fin 4) {v : Fin 4} (h : σ.s c = v) : σ.setS c v = σ := by subst h; unfold Sg.setS; rw [Function.update_eq_self]
/-- Setting a piece to the status that it has changes nothing. -/
theorem setO_self (c : Fin 4) {v : Fin 5} (h : σ.o c = v) : σ.setO c v = σ := by subst h; unfold Sg.setO; rw [Function.update_eq_self]

/-! ## The loads -/

/-- A load of a landed block of the receive buffer. -/
theorem step_load_r {Ψ : α → sProp 𝕄} (x : K) {k : ((rR x).shape.Idx → Elt F .f32) → Prog (TpuEff nD τ sig (Elt F) Λ₀ .tc) α}
    {hl : rB.view.LoadsAt (rR x).toLoadRect} (h : σ.r x = true)
    (hk : ∀ v : (rR x).shape.Idx → Elt F .f32, (∀ a b, v (ix4 (0 : Fin 1) (0 : Fin 1) a b) = accN P x.1.val (zp d) a (blk x.2 b)) →
      St P κ d σ ⊢ Run d (k v) Ψ) :
    St P κ d σ ⊢ Run d (Prog.lift (.load rB (rR x).toLoadRect hl) >>= k) Ψ := by
  refine load_at rB (rR x) (rM x).view.set fullShare (fun f => f = recvC P d)
    ((View.set_slice_whole _ _).trans (rM_set _).symm).subset ?_ ?_
  · refine (St_r x h).trans ?_
    iintro ⟨Hb, Hk⟩
    iexists (recvC P d)
    isplitr; · ipureintro; rfl
    isplitl [Hb]; · iexact Hb
    iexact Hk
  · rintro f rfl
    refine hk _ fun a b => ?_
    show recvC P d ((rR x).emb (ix4 (0 : Fin 1) (0 : Fin 1) a b)) = _
    rw [rR_emb]; rfl

/-- A load of a piece of the product. -/
theorem step_load_p {Ψ : α → sProp 𝕄} (s c : Fin 4) {off : Fin 2 → ℕ}
    (e : off = ![512 * (rowB d s).val, 512 * c.val]) {hb : ∀ a, off a + S512x512.size a ≤ S2048x2048.size a}
    {k : ((Rect.unit (s := S2048x2048) off S512x512.size hb).shape.Idx → Elt F .f32) → Prog (TpuEff nD τ sig (Elt F) Λ₀ .tc) α}
    {hl : pB.view.LoadsAt (Rect.unit (s := S2048x2048) off S512x512.size hb).toLoadRect}
    (hk : ∀ v : (Rect.unit (s := S2048x2048) off S512x512.size hb).shape.Idx → Elt F .f32,
      (∀ a b, v (ix2 a b) = P d (ix2 (blk (rowB d s) a) (blk c b))) → St P κ d σ ⊢ Run d (k v) Ψ) :
    St P κ d σ ⊢ Run d (Prog.lift (.load pB (Rect.unit (s := S2048x2048) off S512x512.size hb).toLoadRect hl) >>= k) Ψ := by
  subst e
  refine load_at pB (pR (rowB d s) c) Finset.univ qR (fun f => f = P d) (Finset.subset_univ _) ?_ ?_
  · refine St_p.trans ?_
    iintro ⟨Hb, Hk⟩
    iexists (P d)
    isplitr; · ipureintro; rfl
    isplitl [Hb]; · iexact Hb
    iexact Hk
  · rintro f rfl
    refine hk _ fun a b => ?_
    show P d ((pR (rowB d s) c).emb (ix2 a b)) = _
    rw [pR_emb]

/-- A load of a free chunk of the send buffer, whatever it holds. -/
theorem step_load_s {Ψ : α → sProp 𝕄} (c : Fin 4) {k : ((sR c).shape.Idx → Elt F .f32) → Prog (TpuEff nD τ sig (Elt F) Λ₀ .tc) α}
    {hl : sB.view.LoadsAt (sR c).toLoadRect} (h : σ.s c = 0) (hk : ∀ v, St P κ d σ ⊢ Run d (k v) Ψ) :
    St P κ d σ ⊢ Run d (Prog.lift (.load sB (sR c).toLoadRect hl) >>= k) Ψ := by
  refine load_at sB (sR c) (sM c).view.set fullShare (fun _ => True)
    ((View.set_slice_whole _ _).trans (sM_set _).symm).subset ?_ fun f _ => hk _
  refine (St_s c h).trans ?_
  iintro ⟨Hi, Hk⟩
  ihave Hi := (show sbs P d c 0 ⊢ iprop(∃ f, sP d c f) from .rfl) $$ Hi
  icases Hi with ⟨%f, Hb⟩
  iexists f
  isplitr; · ipureintro; trivial
  isplitl [Hb]; · iexact Hb
  iintro Hb
  ihave H := Hk $$ %(0 : Fin 4) [Hb]
  · unfold sbs; iexists f; iexact Hb
  rw [setS_self c h]
  iexact H

/-- A load of an own piece of the output not yet finished, whatever it holds. -/
theorem step_load_o {Ψ : α → sProp 𝕄} (c : Fin 4) {off : Fin 2 → ℕ}
    (e : off = ![0, 2048 * (fb d).val + 512 * c.val]) {hb : ∀ a, off a + S512x512.size a ≤ S512x8192.size a}
    {k : ((Rect.unit (s := S512x8192) off S512x512.size hb).shape.Idx → Elt F .f32) → Prog (TpuEff nD τ sig (Elt F) Λ₀ .tc) α}
    {hl : oB.view.LoadsAt (Rect.unit (s := S512x8192) off S512x512.size hb).toLoadRect} (h : σ.o c = 0)
    (hk : ∀ v, St P κ d σ ⊢ Run d (k v) Ψ) :
    St P κ d σ ⊢ Run d (Prog.lift (.load oB (Rect.unit (s := S512x8192) off S512x512.size hb).toLoadRect hl) >>= k) Ψ := by
  subst e
  refine load_at oB (oR (fb d) c) (oM (fb d) c).view.set fullShare (fun _ => True)
    ((View.set_slice_whole _ _).trans (oM_set _ _).symm).subset ?_ fun f _ => hk _
  refine (St_o c h).trans ?_
  iintro ⟨Hi, Hk⟩
  ihave Hi := (show os P d c 0 ⊢ iprop(∃ f, oP d (fb d) c fullShare f) from .rfl) $$ Hi
  icases Hi with ⟨%f, Hb⟩
  iexists f
  isplitr; · ipureintro; trivial
  isplitl [Hb]; · iexact Hb
  iintro Hb
  ihave H := Hk $$ %(0 : Fin 5) [Hb]
  · unfold os; iexists f; iexact Hb
  rw [setO_self c h]
  iexact H

/-! ## The stores -/

/-- One more step around the ring adds the device's own product. -/
theorem accN_succ (n : ℕ) (i : Fin 512) (q : Fin 2048) :
    accN P (n + 1) d i q = FloatOps.addf (accN P n (zp d) i q) (P d (ix2 (blk (rowB d (Fin.ofNat 4 (n + 1))) i) q)) := rfl

/-- What a store of a sum to a chunk of the send buffer leaves there. -/
theorem stored_s (n : ℕ) (c : Fin 4) (f : S4x512x512.Idx → F .f32) (w : S1x512x512.Idx → F .f32)
    (hw : ∀ a b, w (ix3 (0 : Fin 1) a b) = accN P n d a (blk c b)) :
    ∀ i ∈ (sM c).view.set, (sB.access (sR c)).write (Elt F) f w Finset.univ i = sbufC P n d i :=
  forall_set fun a b => by
    rw [sM_emb, ← sR_emb c (0 : Fin 1) a b]
    refine (View.write_emb_of_mem (v := sB.access (sR c)) _ _ (Finset.mem_univ (ix3 (0 : Fin 1) a b))).trans ?_
    rw [sR_emb]; exact hw a b
/-- What a store of a sum to an own piece of the output leaves there. -/
theorem stored_o (c : Fin 4) (f : S512x8192.Idx → F .f32) (w : S512x512.Idx → F .f32)
    (hw : ∀ a b, w (ix2 a b) = accN P 3 d a (blk c b)) :
    ∀ i ∈ (oM (fb d) c).view.set, (oB.access (oR (fb d) c)).write (Elt F) f w Finset.univ i = outC P d i :=
  forall_set fun a b => by
    rw [oM_emb, outC_ix2, at_fb, ← oR_emb (fb d) c a b]
    refine (View.write_emb_of_mem (v := oB.access (oR (fb d) c)) _ _ (Finset.mem_univ (ix2 a b))).trans ?_
    exact hw a b
/-- A finished piece's share in thirds, one for each peer. -/
theorem thirds (c : Fin 4) : oP d (fb d) c fullShare (outC P d) ⊣⊢ os P d c 1 := by
  have h1 : oP d (fb d) c fullShare (outC P d) ⊣⊢ iprop(oP d (fb d) c fullShare.left (outC P d) ∗ oP d (fb d) c fullShare.right (outC P d)) :=
    pointsTo_share (PosShare.mem_left_op_right fullShare)
  have h2 : oP d (fb d) c fullShare.right (outC P d)
      ⊣⊢ iprop(oP d (fb d) c fullShare.right.left (outC P d) ∗ oP d (fb d) c fullShare.right.right (outC P d)) :=
    pointsTo_share (PosShare.mem_left_op_right fullShare.right)
  refine ⟨?_, ?_⟩
  · refine h1.1.trans ((sep_mono_right h2.1).trans ?_)
    iintro ⟨H0, H1, H2⟩
    unfold os
    isplitl [H0]; · iexact H0
    isplitl [H1]; · iexact H1
    isplitl [H2]; · iexact H2
    iempintro
  · refine BIBase.Entails.trans ?_ ((sep_mono_right h2.2).trans h1.2)
    iintro H
    ihave H := (show os P d c 1 ⊢ iprop(third P d c 0 ∗ third P d c 1 ∗ third P d c 2 ∗ emp) from .rfl) $$ H
    icases H with ⟨H0, H1, H2, -⟩
    isplitl [H0]; · iexact H0
    isplitl [H1]; · iexact H1
    iexact H2

/-- The store of the sum of a landed block and a block of the product to a free chunk of the send buffer. -/
theorem step_store_s {Ψ : α → sProp 𝕄} {k : PUnit → Prog (TpuEff nD τ sig (Elt F) Λ₀ .tc) α} (c : Fin 4) (n : ℕ) (u : Fin 4)
    (hu : ∀ c, sbs P d c u = sP d c (sbufC P (n + 1) d))
    {v : S1x1x512x512.Idx → F .f32} {w : S512x512.Idx → F .f32} {pay : (sR c).shape.Idx → Elt F .f32} (hpay : pay = k0_pay1 v w)
    (hv : ∀ a b, v (ix4 (0 : Fin 1) (0 : Fin 1) a b) = accN P n (zp d) a (blk c b))
    (hw : ∀ a b, w (ix2 a b) = P d (ix2 (blk (rowB d (Fin.ofNat 4 (n + 1))) a) (blk c b)))
    {hx : (sB.access (sR c)).Stores Finset.univ} {hm} (h : σ.s c = 0)
    (hk : St P κ d (σ.setS c u) ⊢ Run d (k ⟨⟩) Ψ) :
    St P κ d σ ⊢ Run d (Prog.lift (.store sB (sR c) pay Finset.univ hx hm) >>= k) Ψ := by
  subst hpay
  have hs : ∀ f, ∀ i ∈ (sM c).view.set, (sB.access (sR c)).write (Elt F) f (k0_pay1 v w) Finset.univ i = sbufC P (n + 1) d i :=
    fun f => stored_s (n + 1) c f _ fun a b => by rw [pay_send, hv, hw, accN_succ]
  refine store_at sB (sR c) (sM c).view.set ((View.set_slice_whole _ _).trans (sM_set _).symm).subset ?_ hk
  refine (St_s c h).trans ?_
  iintro ⟨Hi, Hk⟩
  ihave Hi := (show sbs P d c 0 ⊢ iprop(∃ f, sP d c f) from .rfl) $$ Hi
  icases Hi with ⟨%f, Hb⟩
  iexists f
  isplitl [Hb]; · iexact Hb
  iintro Hb
  iapply Hk
  rw [hu]
  iapply (show _ ⊢ sP d c (sbufC P (n + 1) d) from Entails.of_eq (pointsTo_congr (hs f))) $$ Hb

/-- What the last store of chunk `c` leaves in its piece of the output. -/
theorem stored_out (c : Fin 4) {v : S1x1x512x512.Idx → F .f32} {w : S512x512.Idx → F .f32}
    (hv : ∀ a b, v (ix4 (0 : Fin 1) (0 : Fin 1) a b) = accN P 2 (zp d) a (blk c b))
    (hw : ∀ a b, w (ix2 a b) = P d (ix2 (blk (rowB d 3) a) (blk c b))) (f : S512x8192.Idx → F .f32) :
    ∀ i ∈ (oM (fb d) c).view.set, (oB.access (oR (fb d) c)).write (Elt F) f (k0_pay4 v w) Finset.univ i = outC P d i :=
  stored_o c f _ fun a b => by rw [pay_out, hv, hw]; exact (accN_succ (P := P) (d := d) 2 a (blk c b)).symm

/-- The same for any payload that leaves the output's final contents there. -/
theorem store_o_aux {Ψ : α → sProp 𝕄} {k : PUnit → Prog (TpuEff nD τ sig (Elt F) Λ₀ .tc) α} (c : Fin 4)
    {pay : (oR (fb d) c).shape.Idx → Elt F .f32}
    (hs : ∀ f : S512x8192.Idx → F .f32, ∀ i ∈ (oM (fb d) c).view.set, (oB.access (oR (fb d) c)).write (Elt F) f pay Finset.univ i = outC P d i)
    {hx : (oB.access (oR (fb d) c)).Stores Finset.univ} {hm} (h : σ.o c = 0)
    (hk : St P κ d (σ.setO c 1) ⊢ Run d (k ⟨⟩) Ψ) :
    St P κ d σ ⊢ Run d (Prog.lift (.store oB (oR (fb d) c) pay Finset.univ hx hm) >>= k) Ψ := by
  refine store_at oB (oR (fb d) c) (oM (fb d) c).view.set ((View.set_slice_whole _ _).trans (oM_set _ _).symm).subset ?_ hk
  refine (St_o c h).trans ?_
  iintro ⟨Hi, Hk⟩
  ihave Hi := (show os P d c 0 ⊢ iprop(∃ f, oP d (fb d) c fullShare f) from .rfl) $$ Hi
  icases Hi with ⟨%f, Hb⟩
  iexists f
  isplitl [Hb]; · iexact Hb
  iintro Hb
  iapply Hk
  iapply (thirds c).1
  iapply (Entails.of_eq (pointsTo_congr (hs f))) $$ Hb

/-- The store of the last sum to an own piece of the output, which is then finished. -/
theorem step_store_o {Ψ : α → sProp 𝕄} {k : PUnit → Prog (TpuEff nD τ sig (Elt F) Λ₀ .tc) α} (c : Fin 4) {off : Fin 2 → ℕ}
    (e : off = ![0, 2048 * (fb d).val + 512 * c.val]) {hb : ∀ a, off a + S512x512.size a ≤ S512x8192.size a}
    {v : S1x1x512x512.Idx → F .f32} {w : S512x512.Idx → F .f32}
    {pay : (Rect.unit (s := S512x8192) off S512x512.size hb).shape.Idx → Elt F .f32} (hpay : pay = k0_pay4 v w)
    (hv : ∀ a b, v (ix4 (0 : Fin 1) (0 : Fin 1) a b) = accN P 2 (zp d) a (blk c b))
    (hw : ∀ a b, w (ix2 a b) = P d (ix2 (blk (rowB d 3) a) (blk c b)))
    {hx : (oB.access (Rect.unit (s := S512x8192) off S512x512.size hb)).Stores Finset.univ} {hm} (h : σ.o c = 0)
    (hk : St P κ d (σ.setO c 1) ⊢ Run d (k ⟨⟩) Ψ) :
    St P κ d σ ⊢ Run d (Prog.lift (.store oB (Rect.unit (s := S512x8192) off S512x512.size hb) pay Finset.univ hx hm) >>= k) Ψ := by
  subst e
  exact store_o_aux c (fun f => by rw [hpay]; exact stored_out c hv hw f) h hk

/-! ## A whole addition -/

/-- The sum of a landed block and a block of the product, put into a free chunk of the send buffer. -/
theorem step_fill {Ψ : α → sProp 𝕄} {k : PUnit → Prog (TpuEff nD τ sig (Elt F) Λ₀ .tc) α} (r : Fin 2) (c : Fin 4) {off : Fin 2 → ℕ}
    (e : off = ![512 * (rowB d ⟨1 + r.val, by omega⟩).val, 512 * c.val]) {hb : ∀ a, off a + S512x512.size a ≤ S2048x2048.size a}
    {pay : Vec F S1x1x512x512 .f32 → Vec F S512x512 .f32 → FVec F S1x512x512 .f32} (hpay : ∀ v w, pay v w = k0_pay1 v w)
    {l1 : rB.view.LoadsAt (rR ((⟨r.val, by omega⟩ : Fin 3), c)).toLoadRect}
    {l2 : pB.view.LoadsAt (Rect.unit (s := S2048x2048) off S512x512.size hb).toLoadRect}
    {l3 : sB.view.LoadsAt (sR c).toLoadRect} {hx : (sB.access (sR c)).Stores Finset.univ} {hm}
    (h : σ.r ((⟨r.val, by omega⟩ : Fin 3), c) = true) (h' : σ.s c = 0)
    (hk : St P κ d (σ.setS c ⟨1 + r.val, by omega⟩) ⊢ Run d (k ⟨⟩) Ψ) :
    St P κ d σ ⊢ Run d (do
      let v : Vec F S1x1x512x512 .f32 ← Prog.lift (.load rB (rR ((⟨r.val, by omega⟩ : Fin 3), c)).toLoadRect l1)
      let w : Vec F S512x512 .f32 ← Prog.lift (.load pB (Rect.unit (s := S2048x2048) off S512x512.size hb).toLoadRect l2)
      let _u : Vec F S1x512x512 .f32 ← Prog.lift (.load sB (sR c).toLoadRect l3)
      Prog.lift (.store sB (sR c) (pay v w) Finset.univ hx hm) >>= k) Ψ := by
  refine step_load_r _ h fun v hv => ?_
  refine step_load_p _ c e fun w hw => ?_
  refine step_load_s c h' fun _ => ?_
  refine step_store_s c r.val _ ?_ (hpay v w) hv (fun a b => ?_) h' hk
  · intro c; revert r; intro r; fin_cases r <;> intros <;> rfl
  · rw [hw, show (Fin.ofNat 4 (r.val + 1) : Fin 4) = ⟨1 + r.val, by omega⟩ from
      Fin.ext (by have := r.isLt; show (r.val + 1) % 4 = 1 + r.val; omega)]

/-- The last sum, put into an own piece of the output. -/
theorem step_finish {Ψ : α → sProp 𝕄} {k : PUnit → Prog (TpuEff nD τ sig (Elt F) Λ₀ .tc) α} (c : Fin 4) {off off' : Fin 2 → ℕ}
    (e : off = ![512 * (rowB d 3).val, 512 * c.val]) (e' : off' = ![0, 2048 * (fb d).val + 512 * c.val])
    {hb : ∀ a, off a + S512x512.size a ≤ S2048x2048.size a} {hb' : ∀ a, off' a + S512x512.size a ≤ S512x8192.size a}
    {pay : Vec F S1x1x512x512 .f32 → Vec F S512x512 .f32 → FVec F S512x512 .f32} (hpay : ∀ v w, pay v w = k0_pay4 v w)
    {l1 : rB.view.LoadsAt (rR ((2 : Fin 3), c)).toLoadRect}
    {l2 : pB.view.LoadsAt (Rect.unit (s := S2048x2048) off S512x512.size hb).toLoadRect}
    {l3 : oB.view.LoadsAt (Rect.unit (s := S512x8192) off' S512x512.size hb').toLoadRect}
    {hx : (oB.access (Rect.unit (s := S512x8192) off' S512x512.size hb')).Stores Finset.univ} {hm}
    (h : σ.r ((2 : Fin 3), c) = true) (h' : σ.o c = 0)
    (hk : St P κ d (σ.setO c 1) ⊢ Run d (k ⟨⟩) Ψ) :
    St P κ d σ ⊢ Run d (do
      let v : Vec F S1x1x512x512 .f32 ← Prog.lift (.load rB (rR ((2 : Fin 3), c)).toLoadRect l1)
      let w : Vec F S512x512 .f32 ← Prog.lift (.load pB (Rect.unit (s := S2048x2048) off S512x512.size hb).toLoadRect l2)
      let _u : Vec F S512x512 .f32 ← Prog.lift (.load oB (Rect.unit (s := S512x8192) off' S512x512.size hb').toLoadRect l3)
      Prog.lift (.store oB (Rect.unit (s := S512x8192) off' S512x512.size hb') (pay v w) Finset.univ hx hm) >>= k) Ψ := by
  refine step_load_r _ h fun v hv => ?_
  refine step_load_p _ c e fun w hw => ?_
  refine step_load_o c e' h' fun _ => ?_
  exact step_store_o c e' (hpay v w) hv hw h' hk

/-- The end of a stretch of the program. -/
theorem step_end {Ψ : α → sProp 𝕄} {Pre : sProp 𝕄} (a : α) (h : Pre ⊢ Ψ a) : Pre ⊢ Run d (pure a) Ψ := by
  refine h.trans ?_
  show _ ⊢ wp frame (wpE (defs₀ (F := F)) 𝒱₀ (d : Thread nD τ) none) Set.univ (.ret a) Ψ
  rw [wp_ret]
  iintro H
  imodintro
  iexact H

/-- The same where what is asked at the end takes an update. -/
theorem step_end_upd {Ψ : α → sProp 𝕄} {Pre : sProp 𝕄} (a : α) (h : Pre ⊢ |={Set.univ}=> Ψ a) : Pre ⊢ Run d (pure a) Ψ := by
  refine h.trans ?_
  show _ ⊢ wp frame (wpE (defs₀ (F := F)) 𝒱₀ (d : Thread nD τ) none) Set.univ (.ret a) Ψ
  rw [wp_ret]

end Cert.KernelIdeal.Rs
-- ==== Proof.Ideal.Parts.lean ====
/-
  The stretches the printed kernel is cut into: each takes the device from one status to the next, operation by operation.
-/
module

public import proofs.«01_k».proof.Proof.Ideal.Access

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Prods F} {κ : GSem nD τ sig → ℕ} {d : Dev nD} {σ : Sg} {α : Type}

/-! ## The statuses between the stretches -/

/-- Past the entry barrier, nothing else done. -/
def start : Sg := ⟨fun _ => 0, fun _ => false, fun _ => 0, fun _ => 0, fun _ => 0, fun _ => false, fun _ => true, fun _ => false⟩
/-- The status after stretch 3. -/
def s3 : Sg := start.setT (0, 0) 1
/-- The status after stretch 4. -/
def s4 : Sg := s3.setT (0, 1) 1
/-- The status after stretch 5. -/
def s5 : Sg := (s4.setR (0, 0)).setS 0 1
/-- The status after stretch 6. -/
def s6 : Sg := (s5.setS 0 3).setT (1, 0) 1
/-- The status after stretch 7. -/
def s7 : Sg := (s6.setT (0, 2) 1).setR (1, 0)
/-- The status after stretch 8. -/
def s8 : Sg := ((s7.setS 0 0).setT (1, 0) 2).setS 0 2
/-- The status after stretch 9. -/
def s9 : Sg := ((s8.setS 0 3).setT (2, 0) 1).setT (0, 3) 1
/-- The status after stretch 10. -/
def s10 : Sg := (s9.setR (0, 1)).setS 1 1
/-- The status after stretch 11. -/
def s11 : Sg := ((s10.setS 1 3).setT (1, 1) 1).setR (2, 0)
/-- The status after stretch 12. -/
def s12 : Sg := ((s11.setO 0 1).setO 0 2).setU (0, 0) 1
/-- The status after stretch 13. -/
def s13 : Sg := ((((s12.setO 0 3).setU (1, 0) 1).setO 0 4).setU (2, 0) 1).setR (1, 1)
/-- The status after stretch 14. -/
def s14 : Sg := ((s13.setS 1 0).setT (1, 1) 2).setS 1 2
/-- The status after stretch 15. -/
def s15 : Sg := ((s14.setS 1 3).setT (2, 1) 1).setR (0, 2)
/-- The status after stretch 16. -/
def s16 : Sg := ((s15.setS 2 1).setS 2 3).setT (1, 2) 1
/-- The status after stretch 17. -/
def s17 : Sg := (s16.setR (2, 1)).setO 1 1
/-- The status after stretch 18. -/
def s18 : Sg := (((((s17.setO 1 2).setU (0, 1) 1).setO 1 3).setU (1, 1) 1).setO 1 4).setU (2, 1) 1
/-- The status after stretch 19. -/
def s19 : Sg := s18.setR (1, 2)
/-- The status after stretch 20. -/
def s20 : Sg := ((((s19.setS 2 0).setT (1, 2) 2).setS 2 2).setS 2 3).setT (2, 2) 1
/-- The status after stretch 21. -/
def s21 : Sg := (s20.setR (0, 3)).setS 3 1
/-- The status after stretch 22. -/
def s22 : Sg := ((s21.setS 3 3).setT (1, 3) 1).setR (2, 2)
/-- The status after stretch 23. -/
def s23 : Sg := ((s22.setO 2 1).setO 2 2).setU (0, 2) 1
/-- The status after stretch 24. -/
def s24 : Sg := ((((s23.setO 2 3).setU (1, 2) 1).setO 2 4).setU (2, 2) 1).setR (1, 3)
/-- The status after stretch 25. -/
def s25 : Sg := ((s24.setS 3 0).setT (1, 3) 2).setS 3 2
/-- The status after stretch 26. -/
def s26 : Sg := ((s25.setS 3 3).setT (2, 3) 1).setR (2, 3)
/-- The status after stretch 27. -/
def s27 : Sg := ((((s26.setO 3 1).setO 3 2).setU (0, 3) 1).setO 3 3).setU (1, 3) 1
/-- The status after stretch 28. -/
def s28 : Sg := ((s27.setO 3 4).setU (2, 3) 1).setV (0, 0)
/-- The status after stretch 29. -/
def s29 : Sg := ((s28.setV (0, 1)).setV (0, 2)).setV (0, 3)
/-- The status after stretch 30. -/
def s30 : Sg := ((s29.setV (1, 0)).setV (1, 1)).setV (1, 2)
/-- The status after stretch 31. -/
def s31 : Sg := ((s30.setV (1, 3)).setV (2, 0)).setV (2, 1)
/-- The status after stretch 32. -/
def s32 : Sg := ((s31.setV (2, 2)).setV (2, 3)).setT (0, 0) 2
/-- The status after stretch 33. -/
def s33 : Sg := ((((s32.setT (0, 1) 2).setT (0, 2) 2).setS 0 0).setT (2, 0) 2).setT (0, 3) 2
/-- The status after stretch 34. -/
def s34 : Sg := (((((s33.setS 1 0).setT (2, 1) 2).setS 2 0).setT (2, 2) 2).setS 3 0).setT (2, 3) 2
/-- The status after stretch 35. -/
def s35 : Sg := ((((s34.setU (0, 0) 2).setU (1, 0) 2).setU (2, 0) 2).setU (0, 1) 2).setU (1, 1) 2
/-- The status after stretch 36. -/
def s36 : Sg := ((((s35.setU (2, 1) 2).setU (0, 2) 2).setU (1, 2) 2).setU (2, 2) 2).setU (0, 3) 2
/-- The status after stretch 37. -/
def s37 : Sg := ((((s36.setU (1, 3) 2).setU (2, 3) 2).setE 0).setE 1).setE 2

/-! ## The stretches -/

variable (h0 : pB.IsWhole) (h1 : oB.IsWhole) (h2 : rB.IsWhole) (h3 : sB.IsWhole)

/-- Stretch 4 of the kernel takes the device from the status before it to the status after it. -/
theorem part4 (v2 v5 v21 v95 : BitVec 32) :
    St P κ d s3 ⊢ Run d (k0_part4 pB h0 oB h1 rB h2 sB h3 cc0_scratch2 cc0_scratch3 cc0_scratch4 cc0_scratch5 cc0_scoped0 d v2 v5 v21 v95)
      fun _ => St P κ d s4 := by
  rw [k0_part4_eq_skeleton]
  unfold k0_part4_skel
  refine step_send_p 1 (dev7_eq d _) rfl rfl (pM_of (off2_eq d) _ _) rfl rfl ?_
  exact step_end _ .rfl

/-- Stretch 5 of the kernel takes the device from the status before it to the status after it. -/
theorem part5 (v2 v8 v123 v124 : BitVec 32) :
    St P κ d s4 ⊢ Run d (k0_part5 pB h0 oB h1 rB h2 sB h3 cc0_scratch2 cc0_scratch3 cc0_scratch4 cc0_scratch5 cc0_scoped0 d v2 v8 v123 v124)
      fun _ => St P κ d s5 := by
  rw [k0_part5_eq_skeleton]
  unfold k0_part5_skel
  refine step_wait_r (0, 0) rfl (fun _ => rfl) (by decide +kernel) rfl ?_
  refine step_fill 0 0 (off3_eq d 0) (fun _ _ => rfl) rfl rfl ?_
  exact step_end _ .rfl

/-- Stretch 6 of the kernel takes the device from the status before it to the status after it. -/
theorem part6 (v2 v5 v8 v21 v153 c : BitVec 32) :
    St P κ d s5 ⊢ Run d (k0_part6 pB h0 oB h1 rB h2 sB h3 cc0_scratch2 cc0_scratch3 cc0_scratch4 cc0_scratch5 cc0_scoped0 d v2 v5 v8 v21 v153 c)
      fun _ => St P κ d s6 := by
  rw [k0_part6_eq_skeleton]
  unfold k0_part6_skel
  refine step_send_s (1, 0) 1 (by decide) (dev8_eq d _) rfl rfl rfl rfl (fun _ => rfl) rfl rfl ?_
  exact step_end _ .rfl

/-- Stretch 7 of the kernel takes the device from the status before it to the status after it. -/
theorem part7 (v2 v5 v8 v21 : BitVec 32) :
    St P κ d s6 ⊢ Run d (k0_part7 pB h0 oB h1 rB h2 sB h3 cc0_scratch2 cc0_scratch3 cc0_scratch4 cc0_scratch5 cc0_scoped0 d v2 v5 v8 v21)
      fun _ => St P κ d s7 := by
  rw [k0_part7_eq_skeleton]
  unfold k0_part7_skel
  refine step_send_p 2 (dev9_eq d _) rfl rfl (pM_of (off4_eq d) _ _) rfl rfl ?_
  refine step_wait_r (1, 0) rfl (fun _ => rfl) (by decide +kernel) rfl ?_
  exact step_end _ .rfl

/-- Stretch 8 of the kernel takes the device from the status before it to the status after it. -/
theorem part8 (v2 v5 v21 v217 : BitVec 32) :
    St P κ d s7 ⊢ Run d (k0_part8 pB h0 oB h1 rB h2 sB h3 cc0_scratch2 cc0_scratch3 cc0_scratch4 cc0_scratch5 cc0_scoped0 d v2 v5 v21 v217)
      fun _ => St P κ d s8 := by
  rw [k0_part8_eq_skeleton]
  unfold k0_part8_skel
  refine step_wait_ss (1, 0) (by decide) rfl (fun _ => rfl) rfl rfl ?_
  refine step_fill 1 0 (off3_eq d 1) (fun _ _ => rfl) rfl rfl ?_
  exact step_end _ .rfl

/-- Stretch 9 of the kernel takes the device from the status before it to the status after it. -/
theorem part9 (v2 v5 v8 v21 : BitVec 32) :
    St P κ d s8 ⊢ Run d (k0_part9 pB h0 oB h1 rB h2 sB h3 cc0_scratch2 cc0_scratch3 cc0_scratch4 cc0_scratch5 cc0_scoped0 d v2 v5 v8 v21)
      fun _ => St P κ d s9 := by
  rw [k0_part9_eq_skeleton]
  unfold k0_part9_skel
  refine step_send_s (2, 0) 2 (by decide) (dev10_eq d _) rfl rfl rfl rfl (fun _ => rfl) rfl rfl ?_
  refine step_send_p 3 (dev11_eq d _) rfl rfl (pM_of (off5_eq d) _ _) rfl rfl ?_
  exact step_end _ .rfl

/-- Stretch 10 of the kernel takes the device from the status before it to the status after it. -/
theorem part10 (v2 v5 v8 v21 : BitVec 32) :
    St P κ d s9 ⊢ Run d (k0_part10 pB h0 oB h1 rB h2 sB h3 cc0_scratch2 cc0_scratch3 cc0_scratch4 cc0_scratch5 cc0_scoped0 d v2 v5 v8 v21)
      fun _ => St P κ d s10 := by
  rw [k0_part10_eq_skeleton]
  unfold k0_part10_skel
  refine step_wait_r (0, 1) rfl (fun _ => rfl) (by decide +kernel) rfl ?_
  refine step_fill 0 1 (off6_eq d 0) (fun _ _ => rfl) rfl rfl ?_
  exact step_end _ .rfl

/-- Stretch 11 of the kernel takes the device from the status before it to the status after it. -/
theorem part11 (v2 v5 v10 v21 : BitVec 32) :
    St P κ d s10 ⊢ Run d (k0_part11 pB h0 oB h1 rB h2 sB h3 cc0_scratch2 cc0_scratch3 cc0_scratch4 cc0_scratch5 cc0_scoped0 d v2 v5 v10 v21)
      fun _ => St P κ d s11 := by
  rw [k0_part11_eq_skeleton]
  unfold k0_part11_skel
  refine step_send_s (1, 1) 1 (by decide) (dev12_eq d _) rfl rfl rfl rfl (fun _ => rfl) rfl rfl ?_
  refine step_wait_r (2, 0) rfl (fun _ => rfl) (by decide +kernel) rfl ?_
  exact step_end _ .rfl

/-- Stretch 12 of the kernel takes the device from the status before it to the status after it. -/
theorem part12 (v2 v5 v8 v33 v34 v332 : BitVec 32) :
    St P κ d s11 ⊢ Run d (k0_part12 pB h0 oB h1 rB h2 sB h3 cc0_scratch2 cc0_scratch3 cc0_scratch4 cc0_scratch5 cc0_scoped0 d v2 v5 v8 v33 v34 v332)
      fun _ => St P κ d s12 := by
  rw [k0_part12_eq_skeleton]
  unfold k0_part12_skel
  refine step_finish 0 (off7_eq d) (off8_eq d 0) (fun _ _ => rfl) rfl rfl ?_
  refine step_send_o (0, 0) 1 2 (peerY d (k0_dev13_eq d) _) rfl rfl (oM_of (off9_eq d 0) _ _) (oM_of (off9_eq d 0) _ _) (fun _ => rfl) rfl rfl ?_
  exact step_end _ .rfl

/-- Stretch 13 of the kernel takes the device from the status before it to the status after it. -/
theorem part13 (v2 v5 v8 v21 v35 v36 : BitVec 32) :
    St P κ d s12 ⊢ Run d (k0_part13 pB h0 oB h1 rB h2 sB h3 cc0_scratch2 cc0_scratch3 cc0_scratch4 cc0_scratch5 cc0_scoped0 d v2 v5 v8 v21 v35 v36)
      fun _ => St P κ d s13 := by
  rw [k0_part13_eq_skeleton]
  unfold k0_part13_skel
  refine step_send_o (1, 0) 2 3 (peerX d (k0_dev14_eq d) _) rfl rfl (oM_of (off9_eq d 0) _ _) (oM_of (off9_eq d 0) _ _) (fun _ => rfl) rfl rfl ?_
  refine step_send_o (2, 0) 3 4 (peerXY d (k0_dev15_eq d) _) rfl rfl (oM_of (off9_eq d 0) _ _) (oM_of (off9_eq d 0) _ _) (fun _ => rfl) rfl rfl ?_
  refine step_wait_r (1, 1) rfl (fun _ => rfl) (by decide +kernel) rfl ?_
  exact step_end _ .rfl

/-- Stretch 14 of the kernel takes the device from the status before it to the status after it. -/
theorem part14 (v392 : BitVec 32) :
    St P κ d s13 ⊢ Run d (k0_part14 pB h0 oB h1 rB h2 sB h3 cc0_scratch2 cc0_scratch3 cc0_scratch4 cc0_scratch5 cc0_scoped0 d v392)
      fun _ => St P κ d s14 := by
  rw [k0_part14_eq_skeleton]
  unfold k0_part14_skel
  refine step_wait_ss (1, 1) (by decide) rfl (fun _ => rfl) rfl rfl ?_
  refine step_fill 1 1 (off6_eq d 1) (fun _ _ => rfl) rfl rfl ?_
  exact step_end _ .rfl

/-- Stretch 15 of the kernel takes the device from the status before it to the status after it. -/
theorem part15 (v2 v5 v8 v21 : BitVec 32) :
    St P κ d s14 ⊢ Run d (k0_part15 pB h0 oB h1 rB h2 sB h3 cc0_scratch2 cc0_scratch3 cc0_scratch4 cc0_scratch5 cc0_scoped0 d v2 v5 v8 v21)
      fun _ => St P κ d s15 := by
  rw [k0_part15_eq_skeleton]
  unfold k0_part15_skel
  refine step_send_s (2, 1) 2 (by decide) (dev16_eq d _) rfl rfl rfl rfl (fun _ => rfl) rfl rfl ?_
  refine step_wait_r (0, 2) rfl (fun _ => rfl) (by decide +kernel) rfl ?_
  exact step_end _ .rfl

/-- Stretch 16 of the kernel takes the device from the status before it to the status after it. -/
theorem part16 (v2 v5 v21 v447 v448 : BitVec 32) :
    St P κ d s15 ⊢ Run d (k0_part16 pB h0 oB h1 rB h2 sB h3 cc0_scratch2 cc0_scratch3 cc0_scratch4 cc0_scratch5 cc0_scoped0 d v2 v5 v21 v447 v448)
      fun _ => St P κ d s16 := by
  rw [k0_part16_eq_skeleton]
  unfold k0_part16_skel
  refine step_fill 0 2 (off10_eq d 0) (fun _ _ => rfl) rfl rfl ?_
  refine step_send_s (1, 2) 1 (by decide) (dev17_eq d _) rfl rfl rfl rfl (fun _ => rfl) rfl rfl ?_
  exact step_end _ .rfl

/-- Stretch 17 of the kernel takes the device from the status before it to the status after it. -/
theorem part17 (v2 v5 v8 v10 v21 v33 : BitVec 32) :
    St P κ d s16 ⊢ Run d (k0_part17 pB h0 oB h1 rB h2 sB h3 cc0_scratch2 cc0_scratch3 cc0_scratch4 cc0_scratch5 cc0_scoped0 d v2 v5 v8 v10 v21 v33)
      fun _ => St P κ d s17 := by
  rw [k0_part17_eq_skeleton]
  unfold k0_part17_skel
  refine step_wait_r (2, 1) rfl (fun _ => rfl) (by decide +kernel) rfl ?_
  refine step_finish 1 (off11_eq d) (off8_eq d 1) (fun _ _ => rfl) rfl rfl ?_
  exact step_end _ .rfl

/-- Stretch 18 of the kernel takes the device from the status before it to the status after it. -/
theorem part18 (v5 v8 v34 v35 v36 v506 : BitVec 32) :
    St P κ d s17 ⊢ Run d (k0_part18 pB h0 oB h1 rB h2 sB h3 cc0_scratch2 cc0_scratch3 cc0_scratch4 cc0_scratch5 cc0_scoped0 d v5 v8 v34 v35 v36 v506)
      fun _ => St P κ d s18 := by
  rw [k0_part18_eq_skeleton]
  unfold k0_part18_skel
  refine step_send_o (0, 1) 1 2 (peerY d (k0_dev18_eq d) _) rfl rfl (oM_of (off9_eq d 1) _ _) (oM_of (off9_eq d 1) _ _) (fun _ => rfl) rfl rfl ?_
  refine step_send_o (1, 1) 2 3 (peerX d (k0_dev19_eq d) _) rfl rfl (oM_of (off9_eq d 1) _ _) (oM_of (off9_eq d 1) _ _) (fun _ => rfl) rfl rfl ?_
  refine step_send_o (2, 1) 3 4 (peerXY d (k0_dev20_eq d) _) rfl rfl (oM_of (off9_eq d 1) _ _) (oM_of (off9_eq d 1) _ _) (fun _ => rfl) rfl rfl ?_
  exact step_end _ .rfl

/-- Stretch 19 of the kernel takes the device from the status before it to the status after it. -/
theorem part19 (v2 v5 v8 v21 : BitVec 32) :
    St P κ d s18 ⊢ Run d (k0_part19 pB h0 oB h1 rB h2 sB h3 cc0_scratch2 cc0_scratch3 cc0_scratch4 cc0_scratch5 cc0_scoped0 v2 v5 v8 v21)
      fun _ => St P κ d s19 := by
  rw [k0_part19_eq_skeleton]
  unfold k0_part19_skel
  refine step_wait_r (1, 2) rfl (fun _ => rfl) (by decide +kernel) rfl ?_
  exact step_end _ .rfl

/-- Stretch 20 of the kernel takes the device from the status before it to the status after it. -/
theorem part20 (v2 v5 v21 v563 : BitVec 32) :
    St P κ d s19 ⊢ Run d (k0_part20 pB h0 oB h1 rB h2 sB h3 cc0_scratch2 cc0_scratch3 cc0_scratch4 cc0_scratch5 cc0_scoped0 d v2 v5 v21 v563)
      fun _ => St P κ d s20 := by
  rw [k0_part20_eq_skeleton]
  unfold k0_part20_skel
  refine step_wait_ss (1, 2) (by decide) rfl (fun _ => rfl) rfl rfl ?_
  refine step_fill 1 2 (off10_eq d 1) (fun _ _ => rfl) rfl rfl ?_
  refine step_send_s (2, 2) 2 (by decide) (dev21_eq d _) rfl rfl rfl rfl (fun _ => rfl) rfl rfl ?_
  exact step_end _ .rfl

/-- Stretch 21 of the kernel takes the device from the status before it to the status after it. -/
theorem part21 (v2 v5 v8 v21 : BitVec 32) :
    St P κ d s20 ⊢ Run d (k0_part21 pB h0 oB h1 rB h2 sB h3 cc0_scratch2 cc0_scratch3 cc0_scratch4 cc0_scratch5 cc0_scoped0 d v2 v5 v8 v21)
      fun _ => St P κ d s21 := by
  rw [k0_part21_eq_skeleton]
  unfold k0_part21_skel
  refine step_wait_r (0, 3) rfl (fun _ => rfl) (by decide +kernel) rfl ?_
  refine step_fill 0 3 (off12_eq d 0) (fun _ _ => rfl) rfl rfl ?_
  exact step_end _ .rfl

/-- Stretch 22 of the kernel takes the device from the status before it to the status after it. -/
theorem part22 (v2 v5 v10 v21 : BitVec 32) :
    St P κ d s21 ⊢ Run d (k0_part22 pB h0 oB h1 rB h2 sB h3 cc0_scratch2 cc0_scratch3 cc0_scratch4 cc0_scratch5 cc0_scoped0 d v2 v5 v10 v21)
      fun _ => St P κ d s22 := by
  rw [k0_part22_eq_skeleton]
  unfold k0_part22_skel
  refine step_send_s (1, 3) 1 (by decide) (dev22_eq d _) rfl rfl rfl rfl (fun _ => rfl) rfl rfl ?_
  refine step_wait_r (2, 2) rfl (fun _ => rfl) (by decide +kernel) rfl ?_
  exact step_end _ .rfl

/-- Stretch 23 of the kernel takes the device from the status before it to the status after it. -/
theorem part23 (v2 v5 v8 v33 v34 v652 : BitVec 32) :
    St P κ d s22 ⊢ Run d (k0_part23 pB h0 oB h1 rB h2 sB h3 cc0_scratch2 cc0_scratch3 cc0_scratch4 cc0_scratch5 cc0_scoped0 d v2 v5 v8 v33 v34 v652)
      fun _ => St P κ d s23 := by
  rw [k0_part23_eq_skeleton]
  unfold k0_part23_skel
  refine step_finish 2 (off13_eq d) (off8_eq d 2) (fun _ _ => rfl) rfl rfl ?_
  refine step_send_o (0, 2) 1 2 (peerY d (k0_dev23_eq d) _) rfl rfl (oM_of (off9_eq d 2) _ _) (oM_of (off9_eq d 2) _ _) (fun _ => rfl) rfl rfl ?_
  exact step_end _ .rfl

/-- Stretch 24 of the kernel takes the device from the status before it to the status after it. -/
theorem part24 (v2 v5 v8 v21 v35 v36 : BitVec 32) :
    St P κ d s23 ⊢ Run d (k0_part24 pB h0 oB h1 rB h2 sB h3 cc0_scratch2 cc0_scratch3 cc0_scratch4 cc0_scratch5 cc0_scoped0 d v2 v5 v8 v21 v35 v36)
      fun _ => St P κ d s24 := by
  rw [k0_part24_eq_skeleton]
  unfold k0_part24_skel
  refine step_send_o (1, 2) 2 3 (peerX d (k0_dev24_eq d) _) rfl rfl (oM_of (off9_eq d 2) _ _) (oM_of (off9_eq d 2) _ _) (fun _ => rfl) rfl rfl ?_
  refine step_send_o (2, 2) 3 4 (peerXY d (k0_dev25_eq d) _) rfl rfl (oM_of (off9_eq d 2) _ _) (oM_of (off9_eq d 2) _ _) (fun _ => rfl) rfl rfl ?_
  refine step_wait_r (1, 3) rfl (fun _ => rfl) (by decide +kernel) rfl ?_
  exact step_end _ .rfl

/-- Stretch 25 of the kernel takes the device from the status before it to the status after it. -/
theorem part25 (v712 : BitVec 32) :
    St P κ d s24 ⊢ Run d (k0_part25 pB h0 oB h1 rB h2 sB h3 cc0_scratch2 cc0_scratch3 cc0_scratch4 cc0_scratch5 cc0_scoped0 d v712)
      fun _ => St P κ d s25 := by
  rw [k0_part25_eq_skeleton]
  unfold k0_part25_skel
  refine step_wait_ss (1, 3) (by decide) rfl (fun _ => rfl) rfl rfl ?_
  refine step_fill 1 3 (off12_eq d 1) (fun _ _ => rfl) rfl rfl ?_
  exact step_end _ .rfl

/-- Stretch 26 of the kernel takes the device from the status before it to the status after it. -/
theorem part26 (v2 v5 v10 v21 : BitVec 32) :
    St P κ d s25 ⊢ Run d (k0_part26 pB h0 oB h1 rB h2 sB h3 cc0_scratch2 cc0_scratch3 cc0_scratch4 cc0_scratch5 cc0_scoped0 d v2 v5 v10 v21)
      fun _ => St P κ d s26 := by
  rw [k0_part26_eq_skeleton]
  unfold k0_part26_skel
  refine step_send_s (2, 3) 2 (by decide) (dev26_eq d _) rfl rfl rfl rfl (fun _ => rfl) rfl rfl ?_
  refine step_wait_r (2, 3) rfl (fun _ => rfl) (by decide +kernel) rfl ?_
  exact step_end _ .rfl

/-- Stretch 27 of the kernel takes the device from the status before it to the status after it. -/
theorem part27 (v2 v5 v8 v33 v34 v766 : BitVec 32) :
    St P κ d s26 ⊢ Run d (k0_part27 pB h0 oB h1 rB h2 sB h3 cc0_scratch2 cc0_scratch3 cc0_scratch4 cc0_scratch5 cc0_scoped0 d v2 v5 v8 v33 v34 v766)
      fun _ => St P κ d s27 := by
  rw [k0_part27_eq_skeleton]
  unfold k0_part27_skel
  refine step_finish 3 (off14_eq d) (off8_eq d 3) (fun _ _ => rfl) rfl rfl ?_
  refine step_send_o (0, 3) 1 2 (peerY d (k0_dev27_eq d) _) rfl rfl (oM_of (off9_eq d 3) _ _) (oM_of (off9_eq d 3) _ _) (fun _ => rfl) rfl rfl ?_
  refine step_send_o (1, 3) 2 3 (peerX d (k0_dev28_eq d) _) rfl rfl (oM_of (off9_eq d 3) _ _) (oM_of (off9_eq d 3) _ _) (fun _ => rfl) rfl rfl ?_
  exact step_end _ .rfl

/-- Stretch 28 of the kernel takes the device from the status before it to the status after it. -/
theorem part28 (v2 v8 v33 v35 v36 : BitVec 32) :
    St P κ d s27 ⊢ Run d (k0_part28 pB h0 oB h1 rB h2 sB h3 cc0_scratch2 cc0_scratch3 cc0_scratch4 cc0_scratch5 cc0_scoped0 d v2 v8 v33 v35 v36)
      fun _ => St P κ d s28 := by
  rw [k0_part28_eq_skeleton]
  unfold k0_part28_skel
  refine step_send_o (2, 3) 3 4 (peerXY d (k0_dev29_eq d) _) rfl rfl (oM_of (off9_eq d 3) _ _) (oM_of (off9_eq d 3) _ _) (fun _ => rfl) rfl rfl ?_
  refine step_wait_v (0, 0) rfl (fun _ => rfl) (by decide +kernel) (by decide +kernel) rfl ?_
  exact step_end _ .rfl

/-- Stretch 29 of the kernel takes the device from the status before it to the status after it. -/
theorem part29 (v2 v5 v8 v33 v34 : BitVec 32) :
    St P κ d s28 ⊢ Run d (k0_part29 pB h0 oB h1 rB h2 sB h3 cc0_scratch2 cc0_scratch3 cc0_scratch4 cc0_scratch5 cc0_scoped0 d v2 v5 v8 v33 v34)
      fun _ => St P κ d s29 := by
  rw [k0_part29_eq_skeleton]
  unfold k0_part29_skel
  refine step_wait_v (0, 1) rfl (fun _ => rfl) (by decide +kernel) (by decide +kernel) rfl ?_
  refine step_wait_v (0, 2) rfl (fun _ => rfl) (by decide +kernel) (by decide +kernel) rfl ?_
  refine step_wait_v (0, 3) rfl (fun _ => rfl) (by decide +kernel) (by decide +kernel) rfl ?_
  exact step_end _ .rfl

/-- Stretch 30 of the kernel takes the device from the status before it to the status after it. -/
theorem part30 (v5 v8 v34 v855 v856 : BitVec 32) :
    St P κ d s29 ⊢ Run d (k0_part30 pB h0 oB h1 rB h2 sB h3 cc0_scratch2 cc0_scratch3 cc0_scratch4 cc0_scratch5 cc0_scoped0 d v5 v8 v34 v855 v856)
      fun _ => St P κ d s30 := by
  rw [k0_part30_eq_skeleton]
  unfold k0_part30_skel
  refine step_wait_v (1, 0) rfl (fun _ => rfl) (by decide +kernel) (by decide +kernel) rfl ?_
  refine step_wait_v (1, 1) rfl (fun _ => rfl) (by decide +kernel) (by decide +kernel) rfl ?_
  refine step_wait_v (1, 2) rfl (fun _ => rfl) (by decide +kernel) (by decide +kernel) rfl ?_
  exact step_end _ .rfl

/-- Stretch 31 of the kernel takes the device from the status before it to the status after it. -/
theorem part31 (v8 v35 v36 v883 v884 : BitVec 32) :
    St P κ d s30 ⊢ Run d (k0_part31 pB h0 oB h1 rB h2 sB h3 cc0_scratch2 cc0_scratch3 cc0_scratch4 cc0_scratch5 cc0_scoped0 d v8 v35 v36 v883 v884)
      fun _ => St P κ d s31 := by
  rw [k0_part31_eq_skeleton]
  unfold k0_part31_skel
  refine step_wait_v (1, 3) rfl (fun _ => rfl) (by decide +kernel) (by decide +kernel) rfl ?_
  refine step_wait_v (2, 0) rfl (fun _ => rfl) (by decide +kernel) (by decide +kernel) rfl ?_
  refine step_wait_v (2, 1) rfl (fun _ => rfl) (by decide +kernel) (by decide +kernel) rfl ?_
  exact step_end _ .rfl

/-- Stretch 32 of the kernel takes the device from the status before it to the status after it. -/
theorem part32 (v8 v35 v36 v912 c : BitVec 32) :
    St P κ d s31 ⊢ Run d (k0_part32 pB h0 oB h1 rB h2 sB h3 cc0_scratch2 cc0_scratch3 cc0_scratch4 cc0_scratch5 cc0_scoped0 d v8 v35 v36 v912 c)
      fun _ => St P κ d s32 := by
  rw [k0_part32_eq_skeleton]
  unfold k0_part32_skel
  refine step_wait_v (2, 2) rfl (fun _ => rfl) (by decide +kernel) (by decide +kernel) rfl ?_
  refine step_wait_v (2, 3) rfl (fun _ => rfl) (by decide +kernel) (by decide +kernel) rfl ?_
  refine step_wait_sp 0 rfl (fun _ => rfl) rfl ?_
  exact step_end _ .rfl

/-- Stretch 33 of the kernel takes the device from the status before it to the status after it. -/
theorem part33 :
    St P κ d s32 ⊢ Run d (k0_part33 pB h0 oB h1 rB h2 sB h3 cc0_scratch2 cc0_scratch3 cc0_scratch4 cc0_scratch5 cc0_scoped0 d)
      fun _ => St P κ d s33 := by
  rw [k0_part33_eq_skeleton]
  unfold k0_part33_skel
  refine step_wait_sp 1 rfl (fun _ => rfl) rfl ?_
  refine step_wait_sp 2 rfl (fun _ => rfl) rfl ?_
  refine step_wait_ss (2, 0) (by decide) rfl (fun _ => rfl) rfl rfl ?_
  refine step_wait_sp 3 rfl (fun _ => rfl) rfl ?_
  exact step_end _ .rfl

/-- Stretch 34 of the kernel takes the device from the status before it to the status after it. -/
theorem part34 :
    St P κ d s33 ⊢ Run d (k0_part34 pB h0 oB h1 rB h2 sB h3 cc0_scratch2 cc0_scratch3 cc0_scratch4 cc0_scratch5 cc0_scoped0)
      fun _ => St P κ d s34 := by
  rw [k0_part34_eq_skeleton]
  unfold k0_part34_skel
  refine step_wait_ss (2, 1) (by decide) rfl (fun _ => rfl) rfl rfl ?_
  refine step_wait_ss (2, 2) (by decide) rfl (fun _ => rfl) rfl rfl ?_
  refine step_wait_ss (2, 3) (by decide) rfl (fun _ => rfl) rfl rfl ?_
  exact step_end _ .rfl

/-- Stretch 35 of the kernel takes the device from the status before it to the status after it. -/
theorem part35 :
    St P κ d s34 ⊢ Run d (k0_part35 pB h0 oB h1 rB h2 sB h3 cc0_scratch2 cc0_scratch3 cc0_scratch4 cc0_scratch5 cc0_scoped0 d)
      fun _ => St P κ d s35 := by
  rw [k0_part35_eq_skeleton]
  unfold k0_part35_skel
  refine step_wait_u (0, 0) rfl (fun _ => rfl) rfl ?_
  refine step_wait_u (1, 0) rfl (fun _ => rfl) rfl ?_
  refine step_wait_u (2, 0) rfl (fun _ => rfl) rfl ?_
  refine step_wait_u (0, 1) rfl (fun _ => rfl) rfl ?_
  refine step_wait_u (1, 1) rfl (fun _ => rfl) rfl ?_
  exact step_end _ .rfl

/-- Stretch 36 of the kernel takes the device from the status before it to the status after it. -/
theorem part36 :
    St P κ d s35 ⊢ Run d (k0_part36 pB h0 oB h1 rB h2 sB h3 cc0_scratch2 cc0_scratch3 cc0_scratch4 cc0_scratch5 cc0_scoped0 d)
      fun _ => St P κ d s36 := by
  rw [k0_part36_eq_skeleton]
  unfold k0_part36_skel
  refine step_wait_u (2, 1) rfl (fun _ => rfl) rfl ?_
  refine step_wait_u (0, 2) rfl (fun _ => rfl) rfl ?_
  refine step_wait_u (1, 2) rfl (fun _ => rfl) rfl ?_
  refine step_wait_u (2, 2) rfl (fun _ => rfl) rfl ?_
  refine step_wait_u (0, 3) rfl (fun _ => rfl) rfl ?_
  exact step_end _ .rfl

/-- Stretch 37 of the kernel takes the device from the status before it to the status after it. -/
theorem part37 (v2 v5 v8 v21 v32 v33 v34 : BitVec 32) :
    St P κ d s36 ⊢ Run d (k0_part37 pB h0 oB h1 rB h2 sB h3 cc0_scratch2 cc0_scratch3 cc0_scratch4 cc0_scratch5 cc0_scoped0 d v2 v5 v8 v21 v32 v33 v34)
      fun _ => St P κ d s37 := by
  rw [k0_part37_eq_skeleton]
  unfold k0_part37_skel
  refine step_wait_u (1, 3) rfl (fun _ => rfl) rfl ?_
  refine step_wait_u (2, 3) rfl (fun _ => rfl) rfl ?_
  refine step_exit_signal 0 (dev30_eq d _) rfl ?_
  refine step_exit_signal 1 (dev31_eq d _) rfl ?_
  refine step_exit_signal 2 (peerY d (k0_dev32_eq d) _) rfl ?_
  exact step_end _ .rfl

end Cert.KernelIdeal.Rs
-- ==== Proof.Ideal.Barrier.lean ====
/-
  The entry barrier and the exit barrier, the stretches of the printed kernel that hold them, and the whole kernel.
-/
module

public import proofs.«01_k».proof.Proof.Ideal.Parts

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Prods F} {κ : GSem nD τ sig → ℕ} {d : Dev nD} {σ : Sg} {α : Type}

/-! ## Before the entry barrier -/

/-- What a send along the ring needs beside its destination. -/
def ts0 (P : Prods F) (d : Dev nD) (x : K) : sProp 𝕄 :=
  iprop(dutyTok ER (dcell 0 d x) 0 0 ∗ dutyTok ER (dcell 1 (zn d) x) 0 0 ∗ atPos ER (dcell 0 d x) 0 ∅ 0 ∗ reached ER (dcell 0 d x) 0 ∗ pSrc P d x)
/-- What a send of the gather needs beside its destination. -/
def us0 (d : Dev nD) (x : K) : sProp 𝕄 :=
  iprop(dutyTok ER (dcell 2 d x) 0 0 ∗ dutyTok ER (dcell 3 (peer x.1 d) x) 0 0 ∗ atPos ER (dcell 2 d x) 0 ∅ 0 ∗ reached ER (dcell 2 d x) 0)

/-- What a device brings to the entry barrier and keeps across it. -/
def kept (P : Prods F) (d : Dev nD) : sProp 𝕄 :=
  iprop(pHalf P d
    ∗ (bigSep Finset.univ fun x => ts0 P d x) ∗ (bigSep Finset.univ fun x => rs P d x false)
    ∗ (bigSep Finset.univ fun c => sbs P d c 0) ∗ (bigSep Finset.univ fun c => os P d c 0)
    ∗ (bigSep Finset.univ fun x => us0 d x) ∗ (bigSep Finset.univ fun x => vs P d x false)
    ∗ (bigSep Finset.univ fun k : Fin 5 => dutyTok ER (exit (nb k d)) 0 k)
    ∗ pRest P d ∗ cred (tallyAt (exit d) () 5) ∗ atPos ER (exit d) 0 ∅ 0)

/-- What a device holds before it is through the entry barrier. -/
def BarSt (P : Prods F) (κ : GSem nD τ sig → ℕ) (d : Dev nD) (σ : Sg) : sProp 𝕄 :=
  iprop(records P κ ∗ (bigSep Finset.univ fun k => bs d k (σ.b k)) ∗ (∃ W, owes (d : Thread nD τ) (owed d σ) W)
    ∗ cred (tallyAt (bar d) () 5) ∗ atPos ER (bar d) 0 ∅ 0 ∗ kept P d)

/-- A signal of the entry barrier: what the neighbour will be told and lent goes to its cell. -/
theorem step_bar_signal {Ψ : α → sProp 𝕄} {k : PUnit → Prog (TpuEff nD τ sig (Elt F) Λ₀ .tc) α} (j : Fin 5) {dst : Dev nD} {s : Sem sig}
    (hdst : dst = nb j d) (hs : s = barS) (h : σ.b j = false)
    (hk : BarSt P κ d (σ.setB j) ⊢ Run d (k ⟨⟩) Ψ) :
    BarSt P κ d σ ⊢ Run d (semSignalWord dst s 1#32 >>= k) Ψ := by
  subst hdst hs
  change _ ⊢ Run d (.op (.semSignal ((nb j d : Dev nD) : Thread nD τ) barS 1) k) _
  unfold BarSt
  rw [fam_out (bs d) σ.b j h]
  iintro ⟨#HR, ⟨Hi, Hb⟩, ⟨%W, HO⟩, Hst⟩
  ihave Hi := (show bs (F := F) d j false ⊢ iprop(dutyTok ER (bar (nb j d)) 0 j ∗ barPay (nb j d) j) from .rfl) $$ Hi
  icases Hi with ⟨Htok, Hpay⟩
  iapply (Rounds.wp_signal 𝒱₀ ER (Rd P) (d : Thread nD τ) none (dst := (nb j d : Thread nD τ)) (sem := barS) (r := 0) (d := j) (κ := κ (bar (nb j d)))
      (by rw [duties_bar]; exact Finset.mem_univ j) rfl () (owed d (σ.setB j)) (owed_b d σ j h)) $$ [HO Htok Hpay]
  · isplitr; · iapply (records_inv P κ (mem_bar (nb j d))) $$ HR
    isplitl [HO]; · iexact HO
    isplitl [Htok]; · iexact Htok
    isplitl [Hpay]; · rw [payload_bar]; iexact Hpay
    iapply (records_bar P κ (nb j d)) $$ HR
  iintro HO
  iapply hk
  unfold BarSt Sg.setB
  dsimp only
  rw [← fam_in (bs d) σ.b j true]
  isplitr; · iexact HR
  isplitl [Hb]
  · isplitl []
    · unfold bs; iempintro
    iexact Hb
  isplitl [HO]; · iexists _; iexact HO
  iexact Hst

/-- Five pieces, one by one. -/
theorem sep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
/-- Three pieces, one by one. -/
theorem sep_fin3 (Φ : Fin 3 → sProp 𝕄) : bigSep Finset.univ Φ = iprop(Φ 0 ∗ Φ 1 ∗ Φ 2) :=
  bigSep_univ_eq_bigSepL [0, 1, 2] (by decide) (by decide) Φ

/-- The destination of a send along the ring: the neighbour's slot, and that its cell is open. -/
def ringDst (d : Dev nD) (x : K) : sProp 𝕄 := iprop((∃ f, rP (zn d) x f) ∗ reached ER (dcell 1 (zn d) x) 0)
/-- The destination of a send of the gather: the peer's piece, and that its cell is open. -/
def gatherDst (d : Dev nD) (x : K) : sProp 𝕄 :=
  iprop((∃ f, oP (peer x.1 d) (fb d) x.2 fullShare f) ∗ reached ER (dcell 3 (peer x.1 d) x) 0)

/-- What a plane neighbour lends is the destinations of the sends to it. -/
theorem lend_peer (j : Fin 3) (k : Fin 5) (hk : k = pk j) :
    (lend (peer j d) k : sProp 𝕄) ⊢ bigSep Finset.univ fun c : Fin 4 => gatherDst d (j, c) := by
  subst hk
  unfold gatherDst
  have e : fb d = fb (peer j (peer j d)) := by rw [peer_peer]
  dsimp only
  rw [e]
  fin_cases j <;> exact .rfl

/-- What the entry barrier's signals hand over: all exit cells signalled later are open, and every destination. -/
theorem bar_handed : (bigSep Finset.univ (barPay (F := F) d) : sProp 𝕄)
    ⊢ iprop((bigSep Finset.univ fun k : Fin 5 => reached ER (exit (nb k d)) 0) ∗ (bigSep Finset.univ fun x => ringDst d x)
        ∗ (bigSep Finset.univ fun x => gatherDst d x)) := by
  rw [sep_fin5, sep_fin5, bigSep_univ_prod (fun x : Fin 3 × Fin 4 => gatherDst d x), sep_fin3]
  iintro ⟨H0, H1, H2, H3, H4⟩
  ihave H0 := (show barPay (F := F) d 0 ⊢ iprop(reached ER (exit (nb 1 d)) 0 ∗ emp) from .rfl) $$ H0
  ihave H1 := (show barPay (F := F) d 1 ⊢ iprop(reached ER (exit (nb 0 d)) 0 ∗ bigSep Finset.univ fun x : K => ringDst d x) from .rfl) $$ H1
  ihave H2 := (show barPay (F := F) d 2 ⊢ iprop(reached ER (exit (nb 2 d)) 0 ∗ lend (peer 0 d) 2) from .rfl) $$ H2
  ihave H3 := (show barPay (F := F) d 3 ⊢ iprop(reached ER (exit (nb 3 d)) 0 ∗ lend (peer 1 d) 3) from .rfl) $$ H3
  ihave H4 := (show barPay (F := F) d 4 ⊢ iprop(reached ER (exit (nb 4 d)) 0 ∗ lend (peer 2 d) 4) from .rfl) $$ H4
  icases H0 with ⟨E1, -⟩
  icases H1 with ⟨E0, R⟩
  icases H2 with ⟨E2, G0⟩
  icases H3 with ⟨E3, G1⟩
  icases H4 with ⟨E4, G2⟩
  ihave G0 := (lend_peer (F := F) (d := d) 0 2 rfl) $$ G0
  ihave G1 := (lend_peer (F := F) (d := d) 1 3 rfl) $$ G1
  ihave G2 := (lend_peer (F := F) (d := d) 2 4 rfl) $$ G2
  isplitl [E0 E1 E2 E3 E4]
  · isplitl [E0]; · iexact E0
    isplitl [E1]; · iexact E1
    isplitl [E2]; · iexact E2
    isplitl [E3]; · iexact E3
    iexact E4
  isplitl [R]; · iexact R
  isplitl [G0]; · iexact G0
  isplitl [G1]; · iexact G1
  iexact G2

/-- The hops not yet started, from the tokens and the places lent for them. -/
theorem ts_of : iprop((bigSep Finset.univ fun x => ts0 P d x) ∗ (bigSep Finset.univ fun x => ringDst d x))
    ⊢ bigSep Finset.univ fun x => ts P d x 0 := by
  refine BIBase.Entails.trans (Entails.of_eq (bigSep_sep _ _ _).symm) (bigSep_mono fun x _ => ?_)
  show iprop(ts0 P d x ∗ ringDst d x) ⊢ ts P d x 0
  unfold ts0 ringDst
  iintro ⟨⟨H1, H2, H3, H4, H5⟩, H6, H7⟩
  unfold ts
  isplitl [H1]; · iexact H1
  isplitl [H2]; · iexact H2
  isplitl [H3]; · iexact H3
  isplitl [H4]; · iexact H4
  isplitl [H6]; · iexact H6
  isplitl [H7]; · iexact H7
  iexact H5
/-- The plane copies not yet started, from the tokens and the places lent for them. -/
theorem us_of : iprop((bigSep Finset.univ fun x => us0 d x) ∗ (bigSep Finset.univ fun x => gatherDst d x))
    ⊢ bigSep Finset.univ fun x => us P d x 0 := by
  refine BIBase.Entails.trans (Entails.of_eq (bigSep_sep _ _ _).symm) (bigSep_mono fun x _ => ?_)
  show iprop(us0 d x ∗ gatherDst d x) ⊢ us P d x 0
  unfold us0 gatherDst
  iintro ⟨⟨H1, H2, H3, H4⟩, H6, H7⟩
  unfold us
  isplitl [H1]; · iexact H1
  isplitl [H2]; · iexact H2
  isplitl [H3]; · iexact H3
  isplitl [H4]; · iexact H4
  isplitl [H6]; · iexact H6
  iexact H7
/-- The last barrier's signals not yet given, from their tokens. -/
theorem es_of : iprop((bigSep Finset.univ fun k : Fin 5 => dutyTok ER (exit (nb k d)) 0 k) ∗ (bigSep Finset.univ fun k : Fin 5 => reached ER (exit (nb k d)) 0))
    ⊢ (bigSep Finset.univ fun k => es (F := F) d k false : sProp 𝕄) := by
  refine BIBase.Entails.trans (Entails.of_eq (bigSep_sep _ _ _).symm) (bigSep_mono fun x _ => ?_)
  exact (.rfl : iprop(dutyTok ER (exit (nb x d)) 0 x ∗ reached ER (exit (nb x d)) 0) ⊢ _)

/-- The wait for the entry barrier: every neighbour has signalled, so all that they lend is there. -/
theorem step_bar_wait {Ψ : α → sProp 𝕄} {k : PUnit → Prog (TpuEff nD τ sig (Elt F) Λ₀ .tc) α} {s : Sem sig} (hs : s = barS) (hσ : σ = start)
    (hk : St P κ d start ⊢ Run d (k ⟨⟩) Ψ) :
    BarSt P κ d σ ⊢ Run d (semWaitWord s 5#32 >>= k) Ψ := by
  subst hs hσ
  change _ ⊢ Run d (.op (.semWait barS 5) k) _
  unfold BarSt
  iintro ⟨#HR, -, ⟨%W, HO⟩, Hc, Ha, Hst⟩
  iapply (Rounds.wp_wait_rest_token 𝒱₀ ER (Rd P) (d : Thread nD τ) none (κ := κ (bar d)) (w := .semWait barS 5) (sm := .reg barS) (k' := 5)
      (fun _ => rfl) (Set.mem_univ _) () (O := owed d start) (W := W) (R := 0) (m := 0) (T := ∅)
      ((Nat.zero_add _).trans (expect_bar P d).symm)) $$ [Hc HO Ha]
  · isplitr; · iapply (records_inv P κ (mem_bar d)) $$ HR
    isplitl [Hc]; · iexact Hc
    isplitl [HO]; · iexact HO
    isplitr
    · iapply (show records P κ ⊢ MayWait (d : Thread nD τ) (.reg barS) () (owed d start) from
        (records_lev P κ).trans (mayWait (.reg barS) (fun x _ => by rw [show semLv (.reg barS) = 1 from rfl]; omega) (by decide) fun k hk => by cases hk)) $$ HR
    iexact Ha
  iintro ⟨HO, Ha, -, Hpay⟩
  ihave Hp := (Entails.of_eq (rest_bar P d)) $$ Hpay
  ihave Hp := bar_handed $$ Hp
  icases Hp with ⟨He, Hring, Hgath⟩
  unfold kept
  icases Hst with ⟨Hp, Ht, Hr, Hs, Ho, Hu, Hv, Hx, Hpr, Hcx, Hax⟩
  ihave Ht := (ts_of (P := P) (d := d)) $$ [Ht Hring]
  · isplitl [Ht]; · iexact Ht
    iexact Hring
  ihave Hu := (us_of (P := P) (d := d)) $$ [Hu Hgath]
  · isplitl [Hu]; · iexact Hu
    iexact Hgath
  ihave He := (es_of (F := F) (d := d)) $$ [Hx He]
  · isplitl [Hx]; · iexact Hx
    iexact He
  iapply hk
  unfold St still
  isplitr; · iexact HR
  isplitl [Hp]; · iexact Hp
  isplitl [Ht]; · iexact Ht
  isplitl [Hr]; · iexact Hr
  isplitl [Hs]; · iexact Hs
  isplitl [Ho]; · iexact Ho
  isplitl [Hu]; · iexact Hu
  isplitl [Hv]; · iexact Hv
  isplitl [He]; · iexact He
  isplitl [Hpr Hcx Hax Ha]
  · isplitl [Hpr]; · iexact Hpr
    isplitl [Hcx]; · iexact Hcx
    isplitl [Hax]; · iexact Hax
    iexact Ha
  iexists _; iexact HO

/-! ## The exit barrier -/

/-- What a device holds at the end: every item in its last status, both barriers passed, nothing owed. -/
def Done (P : Prods F) (κ : GSem nD τ sig → ℕ) (d : Dev nD) : sProp 𝕄 :=
  iprop(records P κ ∗ pHalf P d
    ∗ (bigSep Finset.univ fun x => ts P d x 2) ∗ (bigSep Finset.univ fun x => rs P d x true)
    ∗ (bigSep Finset.univ fun c => sbs P d c 0)
    ∗ (bigSep Finset.univ fun x => us P d x 2) ∗ (bigSep Finset.univ fun x => vs P d x true)
    ∗ (pRest P d ∗ atPos ER (exit d) 1 ∅ 0 ∗ atPos ER (bar d) 1 ∅ 0) ∗ ∃ W, owes (d : Thread nD τ) 0 W)

/-- A device's status once it has signalled the exit barrier. -/
def last : Sg := ⟨fun _ => 2, fun _ => true, fun _ => 0, fun _ => 4, fun _ => 2, fun _ => true, fun _ => true, fun _ => true⟩

/-- The wait for the exit barrier. -/
theorem step_exit_wait {Ψ : α → sProp 𝕄} {k : PUnit → Prog (TpuEff nD τ sig (Elt F) Λ₀ .tc) α} {s : Sem sig} (hs : s = exitS) (hσ : σ = last)
    (hk : Done P κ d ⊢ Run d (k ⟨⟩) Ψ) :
    St P κ d σ ⊢ Run d (semWaitWord s 5#32 >>= k) Ψ := by
  subst hs hσ
  change _ ⊢ Run d (.op (.semWait exitS 5) k) _
  unfold St still
  rw [show owed d last = 0 from owed_none (fun _ => by simp [last]) (fun _ => by simp [last]) (fun _ => rfl) (fun _ => rfl)]
  iintro ⟨#HR, Hp, Ht, Hr, Hs, -, Hu, Hv, -, ⟨Hpr, Hc, Ha, Hb⟩, ⟨%W, HO⟩⟩
  iapply (Rounds.wp_wait_rest_token 𝒱₀ ER (Rd P) (d : Thread nD τ) none (κ := κ (exit d)) (w := .semWait exitS 5) (sm := .reg exitS) (k' := 5)
      (fun _ => rfl) (Set.mem_univ _) () (O := 0) (W := W) (R := 0) (m := 0) (T := ∅)
      ((Nat.zero_add _).trans (expect_exit P d).symm)) $$ [Hc HO Ha]
  · isplitr; · iapply (records_inv P κ (mem_exit d)) $$ HR
    isplitl [Hc]; · iexact Hc
    isplitl [HO]; · iexact HO
    isplitr; · rw [MayWait_zero]; iempintro
    iexact Ha
  iintro ⟨HO, Ha, -, -⟩
  iapply hk
  unfold Done
  isplitr; · iexact HR
  isplitl [Hp]; · iexact Hp
  isplitl [Ht]; · iexact Ht
  isplitl [Hr]; · iexact Hr
  isplitl [Hs]; · iexact Hs
  isplitl [Hu]; · iexact Hu
  isplitl [Hv]; · iexact Hv
  isplitl [Hpr Ha Hb]
  · isplitl [Hpr]; · iexact Hpr
    isplitl [Ha]; · iexact Ha
    iexact Hb
  iexists _; iexact HO

/-! ## The remaining stretches -/

/-- No operation done yet. -/
def s1 : Sg := { start with b := fun _ => false }
/-- The status before the last signal of the first barrier. -/
def s2 : Sg := (((s1.setB 0).setB 1).setB 2).setB 3
/-- The last signal brings the device to the start of its work. -/
theorem s2_last : s2.setB 4 = start := by
  show Sg.mk _ _ _ _ _ _ _ _ = Sg.mk _ _ _ _ _ _ _ _
  congr 1
  funext k
  revert k; decide

variable (h0 : pB.IsWhole) (h1 : oB.IsWhole) (h2 : rB.IsWhole) (h3 : sB.IsWhole)

/-- The second stretch gives four signals of the first barrier. -/
theorem part2 (v2 v5 v8 v21 v32 v33 v34 c : BitVec 32) :
    BarSt P κ d s1 ⊢ Run d (k0_part2 pB h0 oB h1 rB h2 sB h3 cc0_scratch2 cc0_scratch3 cc0_scratch4 cc0_scratch5 cc0_scoped0 d v2 v5 v8 v21 v32 v33 v34 c)
      fun a => iprop(⌜a.2.2.1.sem = barS⌝ ∗ BarSt P κ d s2) := by
  rw [k0_part2_eq_skeleton]
  unfold k0_part2_skel
  refine step_bar_signal 0 (dev1_eq d _) rfl rfl ?_
  refine step_bar_signal 1 (dev2_eq d _) rfl rfl ?_
  refine step_bar_signal 2 (peerY d (k0_dev3_eq d) _) rfl rfl ?_
  refine step_bar_signal 3 (peerX d (k0_dev4_eq d) _) rfl rfl ?_
  refine step_end _ ?_
  iintro H
  isplitr; · ipureintro; rfl
  iexact H

/-- The third stretch gives the fifth signal, waits for the five that the device gets, and starts the first hop. -/
theorem part3 (v2 v5 v8 v21 v65 : BitVec 32) (v37 : Sems sig S_) (hs : v37.sem = barS) :
    BarSt P κ d s2 ⊢ Run d (k0_part3 pB h0 oB h1 rB h2 sB h3 cc0_scratch2 cc0_scratch3 cc0_scratch4 cc0_scratch5 cc0_scoped0 d v2 v5 v8 v21 v37 v65)
      fun _ => St P κ d s3 := by
  rw [k0_part3_eq_skeleton]
  unfold k0_part3_skel
  refine step_bar_signal 4 (peerXY d (k0_dev5_eq d) _) hs rfl ?_
  refine step_bar_wait hs s2_last ?_
  refine step_send_p 0 (dev6_eq d _) rfl rfl (pM_of (off1_eq d) _ _) rfl rfl ?_
  exact step_end _ .rfl

/-- The first stretch computes the device's place and numbers. -/
theorem part1 {Ψ : _ → sProp 𝕄} {Pre : sProp 𝕄} (h : ∀ v2 v5 v8 v10 v21 v32 v33 v34 c, Pre ⊢ Ψ ⟨d, v2, v5, v8, v10, v21, v32, v33, v34, c⟩) :
    Pre ⊢ Run d (k0_part1 (F := F) pB h0 oB h1 rB h2 sB h3 cc0_scratch2 cc0_scratch3 cc0_scratch4 cc0_scratch5 cc0_scoped0) Ψ := by
  rw [k0_part1_eq_skeleton]
  unfold k0_part1_skel
  show _ ⊢ wp frame (wpE (defs₀ (F := F)) 𝒱₀ (d : Thread nD τ) none) Set.univ (.op .deviceId _) Ψ
  rw [wp_deviceId]
  refine step_end _ ?_
  exact h _ _ _ _ _ _ _ _ _

/-! ## The kernel -/

/-- Two programs in a row, the first run to what the second starts from. -/
theorem run_bind {β : Type} {p : Prog (TpuEff nD τ sig (Elt F) Λ₀ .tc) β} {k : β → Prog (TpuEff nD τ sig (Elt F) Λ₀ .tc) α} {Pre : sProp 𝕄}
    {Φ : β → sProp 𝕄} {Ψ : α → sProp 𝕄} (h : Pre ⊢ Run d p Φ) (hk : ∀ a, Φ a ⊢ Run d (k a) Ψ) : Pre ⊢ Run d (p >>= k) Ψ := by
  refine h.trans ?_
  rw [Run, Run, wp_bind]
  exact (wp _ _ _ p).mono hk

/-- A fact among the resources may be used. -/
theorem of_pure {φ : Prop} {Pre Ψ : sProp 𝕄} (h : φ → Pre ⊢ Ψ) : iprop(⌜φ⌝ ∗ Pre) ⊢ Ψ := by
  iintro ⟨%hφ, H⟩
  iapply (h hφ) $$ H

/-- The last two signals bring the device to the end of its work. -/
theorem s37_last : (s37.setE 3).setE 4 = last := by
  show Sg.mk _ _ _ _ _ _ _ _ = Sg.mk _ _ _ _ _ _ _ _
  congr 1 <;> (funext k; revert k; decide)

/-- The whole kernel, from the entry barrier to the exit barrier, and to what an update then makes of what it leaves. -/
theorem kernel_run {Ψ : PUnit → sProp 𝕄} (h : Done P κ d ⊢ |={Set.univ}=> Ψ ⟨⟩) :
    BarSt P κ d s1 ⊢ Run d (cc0__rs_ag_body pB h0 oB h1 rB h2 sB h3 cc0_scratch2 cc0_scratch3 cc0_scratch4 cc0_scratch5 cc0_scoped0)
      Ψ := by
  rw [cc0__rs_ag_body_eq_skeleton]
  unfold cc0__rs_ag_body_skel
  refine run_bind (Φ := fun a => iprop(⌜a.1 = d⌝ ∗ BarSt P κ d s1)) (part1 h0 h1 h2 h3 fun _ _ _ _ _ _ _ _ _ => ?_) ?_
  · iintro H
    isplitr; · ipureintro; rfl
    iexact H
  rintro ⟨d0, v2, v5, v8, v10, v21, v32, v33, v34, c⟩
  refine of_pure ?_
  rintro (rfl : d0 = d)
  refine run_bind (part2 h0 h1 h2 h3 _ _ _ _ _ _ _ _) ?_
  rintro ⟨v35, v36, v37, v65⟩
  refine of_pure fun (hs : v37.sem = barS) => ?_
  refine run_bind (part3 h0 h1 h2 h3 _ _ _ _ _ v37 hs) fun _ => ?_
  refine run_bind (part4 h0 h1 h2 h3 _ _ _ _) fun _ => ?_
  refine run_bind (part5 h0 h1 h2 h3 _ _ _ _) fun _ => ?_
  refine run_bind (part6 h0 h1 h2 h3 _ _ _ _ _ _) fun _ => ?_
  refine run_bind (part7 h0 h1 h2 h3 _ _ _ _) fun _ => ?_
  refine run_bind (part8 h0 h1 h2 h3 _ _ _ _) fun _ => ?_
  refine run_bind (part9 h0 h1 h2 h3 _ _ _ _) fun _ => ?_
  refine run_bind (part10 h0 h1 h2 h3 _ _ _ _) fun _ => ?_
  refine run_bind (part11 h0 h1 h2 h3 _ _ _ _) fun _ => ?_
  refine run_bind (part12 h0 h1 h2 h3 _ _ _ _ _ _) fun _ => ?_
  refine run_bind (part13 h0 h1 h2 h3 _ _ _ _ _ _) fun _ => ?_
  refine run_bind (part14 h0 h1 h2 h3 _) fun _ => ?_
  refine run_bind (part15 h0 h1 h2 h3 _ _ _ _) fun _ => ?_
  refine run_bind (part16 h0 h1 h2 h3 _ _ _ _ _) fun _ => ?_
  refine run_bind (part17 h0 h1 h2 h3 _ _ _ _ _ _) fun _ => ?_
  refine run_bind (part18 h0 h1 h2 h3 _ _ _ _ _ _) fun _ => ?_
  refine run_bind (part19 h0 h1 h2 h3 _ _ _ _) fun _ => ?_
  refine run_bind (part20 h0 h1 h2 h3 _ _ _ _) fun _ => ?_
  refine run_bind (part21 h0 h1 h2 h3 _ _ _ _) fun _ => ?_
  refine run_bind (part22 h0 h1 h2 h3 _ _ _ _) fun _ => ?_
  refine run_bind (part23 h0 h1 h2 h3 _ _ _ _ _ _) fun _ => ?_
  refine run_bind (part24 h0 h1 h2 h3 _ _ _ _ _ _) fun _ => ?_
  refine run_bind (part25 h0 h1 h2 h3 _) fun _ => ?_
  refine run_bind (part26 h0 h1 h2 h3 _ _ _ _) fun _ => ?_
  refine run_bind (part27 h0 h1 h2 h3 _ _ _ _ _ _) fun _ => ?_
  refine run_bind (part28 h0 h1 h2 h3 _ _ _ _ _) fun _ => ?_
  refine run_bind (part29 h0 h1 h2 h3 _ _ _ _ _) fun _ => ?_
  refine run_bind (part30 h0 h1 h2 h3 _ _ _ _ _) fun _ => ?_
  refine run_bind (part31 h0 h1 h2 h3 _ _ _ _ _) fun _ => ?_
  refine run_bind (part32 h0 h1 h2 h3 _ _ _ _ _) fun _ => ?_
  refine run_bind (part33 h0 h1 h2 h3) fun _ => ?_
  refine run_bind (part34 h0 h1 h2 h3) fun _ => ?_
  refine run_bind (part35 h0 h1 h2 h3) fun _ => ?_
  refine run_bind (part36 h0 h1 h2 h3) fun _ => ?_
  refine run_bind (part37 h0 h1 h2 h3 _ _ _ _ _ _ _) fun _ => ?_
  refine step_exit_signal 3 (peerX _ (k0_dev33_eq _) _) rfl ?_
  refine step_exit_signal 4 (peerXY _ (k0_dev34_eq _) _) rfl ?_
  refine step_exit_wait rfl s37_last ?_
  exact step_end_upd _ h

end Cert.KernelIdeal.Rs
-- ==== Proof.Ideal.Pieces.lean ====
/-
  Each buffer of the kernel as its pieces: held whole, it is held piece by piece, and the pieces join to the whole again.
-/
module

public import proofs.«01_k».proof.Proof.Ideal.Barrier
public import Idealize.ShloMosaic.Lib.Ring

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Prods F} {κ : GSem nD τ sig → ℕ} {d : Dev nD} {σ : Sg} {α : Type}

/-! ## Which piece an element lies in -/

/-- Sets that collect the elements of one key each are disjoint and cover everything. -/
theorem cut {J B : Type} [Fintype J] [DecidableEq J] [Fintype B] [DecidableEq B] (I : B → Finset J) (key : J → B) (h : ∀ b i, i ∈ I b ↔ key i = b) :
    (∀ b b', b ≠ b' → Disjoint (I b) (I b')) ∧ Finset.univ.biUnion I = Finset.univ := by
  constructor
  · intro b b' hb
    rw [Finset.disjoint_left]
    intro i h1 h2
    exact hb (((h b i).mp h1).symm.trans ((h b' i).mp h2))
  · refine Finset.eq_univ_iff_forall.mpr fun i => Finset.mem_biUnion.mpr ⟨key i, Finset.mem_univ _, (h _ i).mpr rfl⟩

/-- The piece of the product that a place lies in. -/
def pKey (i : S2048x2048.Idx) : Fin 4 × Fin 4 :=
  (⟨(i 0).val / 512, by have : (i 0).val < 2048 := (i 0).isLt; omega⟩, ⟨(i 1).val / 512, by have : (i 1).val < 2048 := (i 1).isLt; omega⟩)
/-- The piece of the result that a place lies in. -/
def oKey (i : S512x8192.Idx) : Fin 4 × Fin 4 :=
  (⟨(i 1).val / 2048, by have : (i 1).val < 8192 := (i 1).isLt; omega⟩, ⟨(i 1).val % 2048 / 512, by omega⟩)
/-- The piece of the receive buffer that a place lies in. -/
def rKey (i : S3x4x512x512.Idx) : K := (⟨(i 0).val, (i 0).isLt⟩, ⟨(i 1).val, (i 1).isLt⟩)
/-- The piece of the send buffer that a place lies in. -/
def sKey (i : S4x512x512.Idx) : Fin 4 := ⟨(i 0).val, (i 0).isLt⟩

/-- The places of a piece of the product are those that lie in it. -/
theorem p_mem (b : Fin 4 × Fin 4) (i : S2048x2048.Idx) : i ∈ (pM b.1 b.2).view.set ↔ pKey i = b := by
  obtain ⟨r, c⟩ := b
  rw [pM_set, Rect.mem_set_unit, Fin.forall_fin_two]
  have h0 : (i 0).val < 2048 := (i 0).isLt
  have h1 : (i 1).val < 2048 := (i 1).isLt
  show (512 * r.val ≤ (i 0).val ∧ (i 0).val < 512 * r.val + 512) ∧ (512 * c.val ≤ (i 1).val ∧ (i 1).val < 512 * c.val + 512) ↔ _
  unfold pKey
  rw [Prod.mk.injEq, Fin.ext_iff, Fin.ext_iff]
  dsimp only
  omega
/-- The places of a piece of the result are those that lie in it. -/
theorem o_mem (b : Fin 4 × Fin 4) (i : S512x8192.Idx) : i ∈ (oM b.1 b.2).view.set ↔ oKey i = b := by
  obtain ⟨e, c⟩ := b
  rw [oM_set, Rect.mem_set_unit, Fin.forall_fin_two]
  have h0 : (i 0).val < 512 := (i 0).isLt
  have h1 : (i 1).val < 8192 := (i 1).isLt
  show (0 ≤ (i 0).val ∧ (i 0).val < 0 + 512) ∧ (2048 * e.val + 512 * c.val ≤ (i 1).val ∧ (i 1).val < 2048 * e.val + 512 * c.val + 512) ↔ _
  unfold oKey
  rw [Prod.mk.injEq, Fin.ext_iff, Fin.ext_iff]
  dsimp only
  omega
/-- The places of a piece of the receive buffer are those that lie in it. -/
theorem r_mem (b : K) (i : S3x4x512x512.Idx) : i ∈ (rM b).view.set ↔ rKey i = b := by
  obtain ⟨x, y⟩ := b
  rw [rM_set, Rect.mem_set_unit]
  simp only [Fin.forall_fin_succ, IsEmpty.forall_iff, and_true]
  have h0 : (i 0).val < 3 := (i 0).isLt
  have h1 : (i 1).val < 4 := (i 1).isLt
  have h2 : (i 2).val < 512 := (i 2).isLt
  have h3 : (i 3).val < 512 := (i 3).isLt
  show (x.val ≤ (i 0).val ∧ (i 0).val < x.val + 1) ∧ (y.val ≤ (i 1).val ∧ (i 1).val < y.val + 1)
    ∧ (0 ≤ (i 2).val ∧ (i 2).val < 0 + 512) ∧ (0 ≤ (i 3).val ∧ (i 3).val < 0 + 512) ↔ _
  unfold rKey
  rw [Prod.mk.injEq, Fin.ext_iff, Fin.ext_iff]
  dsimp only
  omega
/-- The places of a piece of the send buffer are those that lie in it. -/
theorem s_mem (b : Fin 4) (i : S4x512x512.Idx) : i ∈ (sM b).view.set ↔ sKey i = b := by
  rw [sM_set, Rect.mem_set_unit]
  simp only [Fin.forall_fin_succ, IsEmpty.forall_iff, and_true]
  have h0 : (i 0).val < 4 := (i 0).isLt
  have h1 : (i 1).val < 512 := (i 1).isLt
  have h2 : (i 2).val < 512 := (i 2).isLt
  show (b.val ≤ (i 0).val ∧ (i 0).val < b.val + 1) ∧ (0 ≤ (i 1).val ∧ (i 1).val < 0 + 512) ∧ (0 ≤ (i 2).val ∧ (i 2).val < 0 + 512) ↔ _
  unfold sKey
  rw [Fin.ext_iff]
  dsimp only
  omega

/-! ## Families of pieces -/

section Families
variable {M : Type} [URA M]

/-- The four blocks of columns: a device's own and its three peers'. -/
theorem own_peers (d : Dev nD) (Φ : Fin 4 → sProp M) :
    bigSep Finset.univ Φ = iprop(Φ (fb d) ∗ bigSep Finset.univ fun j : Fin 3 => Φ (fb (peer j d))) := by
  rw [bigSep_erase (Finset.mem_univ (fb d)),
    (by decide : ∀ d : Dev nD, Finset.univ.erase (fb d) = Finset.univ.map ⟨fun j : Fin 3 => fb (peer j d), fb_peer_inj d⟩) d, bigSep_map]
  rfl

/-- The pieces of a device's own block of columns, and those of its peers' blocks. -/
theorem own_peers_pieces (d : Dev nD) (Φ : Fin 4 × Fin 4 → sProp M) :
    bigSep Finset.univ Φ = iprop((bigSep Finset.univ fun c => Φ (fb d, c)) ∗ bigSep Finset.univ fun x : K => Φ (fb (peer x.1 d), x.2)) := by
  rw [bigSep_univ_prod, own_peers d, bigSep_univ_prod (fun x : K => Φ (fb (peer x.1 d), x.2))]

/-- The slots of the ring's first step hold a piece each and the others nothing. -/
theorem first_step (Φ : Fin 4 → sProp M) :
    (bigSep Finset.univ fun x : K => if x.1 = 0 then Φ x.2 else iprop(emp)) = bigSep Finset.univ Φ := by
  have h (j : Fin 3) (hj : j ∈ Finset.univ.erase (0 : Fin 3)) :
      (bigSep Finset.univ fun c : Fin 4 => if j = 0 then Φ c else iprop(emp)) = (BI.emp : sProp M) :=
    (bigSep_congr (Ψ := fun _ => (BI.emp : sProp M)) fun c _ => if_neg (Finset.ne_of_mem_erase hj)).trans (BI.bigSep_emp_const _)
  rw [bigSep_univ_prod, bigSep_erase (Finset.mem_univ (0 : Fin 3))]
  refine (congrArg (iprop(_ ∗ ·)) ((bigSep_congr h).trans (BI.bigSep_emp_const _))).trans ?_
  refine (BI.equiv_iff.mp sep_emp).trans ?_
  exact bigSep_congr fun c _ => if_pos rfl

/-- A family over the ways of choosing a kind and a slot, or nothing. -/
theorem option_family (Φ : Option (Fin 4 × K) → sProp M) :
    bigSep Finset.univ Φ = iprop(Φ none ∗ (bigSep Finset.univ fun x => Φ (some (0, x))) ∗ (bigSep Finset.univ fun x => Φ (some (1, x)))
      ∗ (bigSep Finset.univ fun x => Φ (some (2, x))) ∗ (bigSep Finset.univ fun x => Φ (some (3, x)))) := by
  rw [bigSep_erase (Finset.mem_univ none),
    show Finset.univ.erase (none : Option (Fin 4 × K)) = Finset.univ.map Function.Embedding.some from by
      ext o; cases o <;> simp,
    bigSep_map, bigSep_univ_prod, show (Finset.univ : Finset (Fin 4)) = {0, 1, 2, 3} from by decide,
    bigSep_insert (by decide), bigSep_insert (by decide), bigSep_insert (by decide), bigSep_singleton]
  rfl
end Families

/-! ## The product -/

/-- The product's buffer held whole is: a half for the loads, the pieces the first sends take, and the pieces of the other rows. -/
theorem split_p (P : Prods F) (d : Dev nD) :
    (pB.view.loc (d : Thread nD τ) ↦{fullShare} (P d) : sProp 𝕄) ⊣⊢ iprop(pHalf P d ∗ (bigSep Finset.univ fun x => pSrc P d x) ∗ pRest P d) := by
  have h : (pB.view.loc (d : Thread nD τ) ↦{qL} (P d) : sProp 𝕄) = iprop((bigSep Finset.univ fun x => pSrc P d x) ∗ pRest P d) := by
    rw [Ring.pointsTo_blocks (fun b : Fin 4 × Fin 4 => (pM b.1 b.2).view.set) (cut _ pKey p_mem).1 (cut _ pKey p_mem).2, bigSep_univ_prod,
      bigSep_erase (Finset.mem_univ (rowB d 0))]
    unfold pSrc pRest
    rw [first_step (fun c => pP d (rowB d 0) c qL (P d))]
    rfl
  rw [← h]
  unfold pHalf
  refine (pointsTo_share (PosShare.mem_left_op_right fullShare)).trans ?_
  exact ⟨sep_comm.1, sep_comm.1⟩

/-! ## The output -/

/-- The output's pieces on a device, its own block's and its peers'. -/
theorem split_o (d : Dev nD) (f : S512x8192.Idx → F .f32) :
    (oB.view.loc (d : Thread nD τ) ↦{fullShare} f : sProp 𝕄)
      = iprop((bigSep Finset.univ fun c => oP d (fb d) c fullShare f) ∗ bigSep Finset.univ fun x : K => oP d (fb (peer x.1 d)) x.2 fullShare f) := by
  rw [Ring.pointsTo_blocks (fun b : Fin 4 × Fin 4 => (oM b.1 b.2).view.set) (cut _ oKey o_mem).1 (cut _ oKey o_mem).2, own_peers_pieces d]

/-! ## The scratch buffers -/

/-- A piece of the receive buffer is in the receive buffer. -/
theorem rM_loc (d : Dev nD) (x : K) : (rM x).view.loc (d : Thread nD τ) = rB.view.loc (d : Thread nD τ) := rfl
/-- A piece of the send buffer is in the send buffer. -/
theorem sM_loc (d : Dev nD) (c : Fin 4) : (sM c).view.loc (d : Thread nD τ) = sB.view.loc (d : Thread nD τ) := rfl

/-- The receive buffer is held slot by slot. -/
theorem split_r (d : Dev nD) (f : S3x4x512x512.Idx → F .f32) :
    (rB.view.loc (d : Thread nD τ) ↦{fullShare} f : sProp 𝕄) = bigSep Finset.univ fun x : K => rP d x f := by
  obtain ⟨h1, h2⟩ := cut _ rKey r_mem
  rw [Ring.pointsTo_blocks (ℓ := rB.view.loc (d : Thread nD τ)) (fun b : K => (rM b).view.set) h1 h2]
/-- The send buffer is held chunk by chunk. -/
theorem split_s (d : Dev nD) (f : S4x512x512.Idx → F .f32) :
    (sB.view.loc (d : Thread nD τ) ↦{fullShare} f : sProp 𝕄) = bigSep Finset.univ fun c : Fin 4 => sP d c f := by
  obtain ⟨h1, h2⟩ := cut _ sKey s_mem
  rw [Ring.pointsTo_blocks (ℓ := sB.view.loc (d : Thread nD τ)) (fun b : Fin 4 => (sM b).view.set) h1 h2]
/-- Chunks held at contents of their own join to the send buffer held at some contents. -/
theorem join_s (d : Dev nD) (f₀ : S4x512x512.Idx → F .f32) :
    (bigSep Finset.univ fun c : Fin 4 => iprop(∃ f, sP d c f)) ⊢ (iprop(∃ f, sB.view.loc (d : Thread nD τ) ↦{fullShare} f) : sProp 𝕄) := by
  obtain ⟨h1, h2⟩ := cut _ sKey s_mem
  exact Ring.pointsTo_blocks_join_exists (ℓ := sB.view.loc (d : Thread nD τ)) (fun b : Fin 4 => (sM b).view.set) h1 h2 f₀

end Cert.KernelIdeal.Rs
-- ==== Proof.Ideal.Ends.lean ====
/-
  The two ends of the kernel on a device: what it is handed becomes the state the entry barrier starts from, and what it
  leaves is every semaphore at zero and every buffer whole, the output at its final contents.
-/
module

public import proofs.«01_k».proof.Proof.Ideal.Pieces

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Prods F} {κ : GSem nD τ sig → ℕ} {d : Dev nD} {σ : Sg} {α : Type}

/-! ## What a device is handed -/

/-- The rights to pay the duties a device pays. -/
def toks (d : Dev nD) : sProp 𝕄 :=
  iprop((bigSep Finset.univ fun k : Fin 5 => dutyTok ER (bar (nb k d)) 0 k) ∗ (bigSep Finset.univ fun k : Fin 5 => dutyTok ER (exit (nb k d)) 0 k)
    ∗ (bigSep Finset.univ fun x : K => dutyTok ER (dcell 0 d x) 0 0) ∗ (bigSep Finset.univ fun x : K => dutyTok ER (dcell 1 (zn d) x) 0 0)
    ∗ (bigSep Finset.univ fun x : K => dutyTok ER (dcell 2 d x) 0 0) ∗ (bigSep Finset.univ fun x : K => dutyTok ER (dcell 3 (peer x.1 d) x) 0 0))
/-- What the other devices will credit it. -/
def creds (d : Dev nD) : sProp 𝕄 :=
  iprop(cred (tallyAt (bar d) () 5) ∗ cred (tallyAt (exit d) () 5)
    ∗ (bigSep Finset.univ fun x : K => cred (tallyAt (dcell 1 d x) () N)) ∗ (bigSep Finset.univ fun x : K => cred (tallyAt (dcell 3 d x) () N)))
/-- The cell of device `d` on the semaphore `o`. -/
abbrev ocell (d : Dev nD) (o : Option (Fin 4 × K)) : GSem nD τ sig := ((d : Thread nD τ), osem o)
/-- A device's own cells, opened. -/
def opened (d : Dev nD) : sProp 𝕄 := bigSep Finset.univ fun o => iprop(atPos ER (ocell d o) 0 ∅ 0 ∗ reached ER (ocell d o) 0)

/-- What a device lends its neighbours, and that its cells are open, is its part in the entry barrier. -/
theorem lends (d : Dev nD) :
    iprop((bigSep Finset.univ fun k : Fin 5 => dutyTok ER (bar (nb k d)) 0 k) ∗ reached ER (exit d) 0
        ∗ (bigSep Finset.univ fun x : K => iprop((∃ f, rP (F := F) d x f) ∗ reached ER (dcell 1 d x) 0))
        ∗ (bigSep Finset.univ fun x : K => iprop((∃ f, oP (F := F) d (fb (peer x.1 d)) x.2 fullShare f) ∗ reached ER (dcell 3 d x) 0)))
      ⊢ (bigSep Finset.univ fun k => bs d k false : sProp 𝕄) := by
  have e : (bigSep Finset.univ fun k => bs d k false : sProp 𝕄)
      = bigSep Finset.univ fun k : Fin 5 => iprop(dutyTok ER (bar (nb k d)) 0 k ∗ reached ER (exit d) 0 ∗ lend d k) :=
    bigSep_congr fun k _ => by
      show iprop(dutyTok ER (bar (nb k d)) 0 k ∗ reached ER (exit (nb (inv5 k) (nb k d))) 0 ∗ lend (nb (inv5 k) (nb k d)) k) = _
      rw [nb_inv]
  rw [bigSep_sep', bigSep_sep', sep_fin5 (fun k => lend d k), sep_fin5 (fun _ => reached ER (exit d) 0)] at e
  rw [e, bigSep_univ_prod (fun x : Fin 3 × Fin 4 => iprop((∃ f, oP (F := F) d (fb (peer x.1 d)) x.2 fullShare f) ∗ reached ER (dcell 3 d x) 0)), sep_fin3]
  iintro ⟨Ht, #He, Hr, H0, H1, H2⟩
  isplitl [Ht]; · iexact Ht
  isplitr
  · isplitr; · iexact He
    isplitr; · iexact He
    isplitr; · iexact He
    isplitr; · iexact He
    iexact He
  isplitr; · unfold lend; iempintro
  isplitl [Hr]; · unfold lend; iexact Hr
  isplitl [H0]; · unfold lend; iexact H0
  isplitl [H1]; · unfold lend; iexact H1
  unfold lend; iexact H2

/-- Contents of its own for each member of a family held at one contents. -/
theorem some_each {A B : Type} {M : Type} [URA M] (S : Finset A) (Φ : A → B → sProp M) (f : B) :
    bigSep S (fun a => Φ a f) ⊢ bigSep S fun a => iprop(∃ f, Φ a f) :=
  bigSep_mono fun a _ => by
    show Φ a f ⊢ iprop(∃ f, Φ a f)
    iintro H
    iexists f
    iexact H

/-- What a device is handed is the state the entry barrier starts from. -/
theorem enter :
    iprop(records P κ ∗ toks d ∗ creds d ∗ atPos ER (bar d) 0 ∅ 0 ∗ opened d ∗ (∃ W, owes (d : Thread nD τ) (owed d s1) W)
        ∗ (pB.view.loc (d : Thread nD τ) ↦{fullShare} P d) ∗ (∃ f, oB.view.loc (d : Thread nD τ) ↦{fullShare} f)
        ∗ (∃ f, rB.view.loc (d : Thread nD τ) ↦{fullShare} f) ∗ (∃ f, sB.view.loc (d : Thread nD τ) ↦{fullShare} f))
      ⊢ BarSt P κ d s1 := by
  unfold BarSt kept toks creds opened
  have hts : (bigSep Finset.univ fun x => ts0 P d x : sProp 𝕄)
      = iprop((bigSep Finset.univ fun x : K => dutyTok ER (dcell 0 d x) 0 0) ∗ (bigSep Finset.univ fun x : K => dutyTok ER (dcell 1 (zn d) x) 0 0)
        ∗ (bigSep Finset.univ fun x : K => atPos ER (dcell 0 d x) 0 ∅ 0) ∗ (bigSep Finset.univ fun x : K => reached ER (dcell 0 d x) 0)
        ∗ bigSep Finset.univ fun x : K => pSrc P d x) := by
    unfold ts0; rw [bigSep_sep', bigSep_sep', bigSep_sep', bigSep_sep']
  have hus : (bigSep Finset.univ fun x => us0 d x : sProp 𝕄)
      = iprop((bigSep Finset.univ fun x : K => dutyTok ER (dcell 2 d x) 0 0) ∗ (bigSep Finset.univ fun x : K => dutyTok ER (dcell 3 (peer x.1 d) x) 0 0)
        ∗ (bigSep Finset.univ fun x : K => atPos ER (dcell 2 d x) 0 ∅ 0) ∗ (bigSep Finset.univ fun x : K => reached ER (dcell 2 d x) 0)) := by
    unfold us0; rw [bigSep_sep', bigSep_sep', bigSep_sep']
  have hrs : (bigSep Finset.univ fun x => rs P d x false : sProp 𝕄)
      = iprop((bigSep Finset.univ fun x : K => cred (tallyAt (dcell 1 d x) () N)) ∗ (bigSep Finset.univ fun x : K => atPos ER (dcell 1 d x) 0 ∅ 0)) := by
    unfold rs; rw [bigSep_sep']
  have hvs : (bigSep Finset.univ fun x => vs P d x false : sProp 𝕄)
      = iprop((bigSep Finset.univ fun x : K => cred (tallyAt (dcell 3 d x) () N)) ∗ (bigSep Finset.univ fun x : K => atPos ER (dcell 3 d x) 0 ∅ 0)) := by
    unfold vs; rw [bigSep_sep']
  have hl := lends (F := F) d
  rw [bigSep_sep', bigSep_sep'] at hl
  rw [hts, hus, hrs, hvs, option_family]
  rw [bigSep_sep', bigSep_sep', bigSep_sep', bigSep_sep']
  iintro ⟨#HR, ⟨Htb, Hte, Ht0, Ht1, Ht2, Ht3⟩, ⟨Hcb, Hce, Hc1, Hc3⟩, Hab, ⟨⟨Hae, #Hre⟩, ⟨Ha0, #Hr0⟩, ⟨Ha1, #Hr1⟩, ⟨Ha2, #Hr2⟩, ⟨Ha3, #Hr3⟩⟩, HO, Hp, ⟨%fo, Ho⟩, ⟨%fr, Hr⟩, ⟨%fs, Hs⟩⟩
  ihave Hp := (split_p P d).1 $$ Hp
  icases Hp with ⟨Hph, Hps, Hpr⟩
  ihave Ho := (Entails.of_eq (split_o d fo)) $$ Ho
  icases Ho with ⟨Hoo, Hop⟩
  ihave Hr := (Entails.of_eq (split_r d fr)) $$ Hr
  ihave Hs := (Entails.of_eq (split_s d fs)) $$ Hs
  isplitr; · iexact HR
  isplitl [Htb Hr Hop]
  · iapply hl
    isplitl [Htb]; · iexact Htb
    isplitr; · iexact Hre
    isplitl [Hr]
    · isplitl [Hr]
      · iapply (some_each Finset.univ (fun (x : K) f => rP (F := F) d x f) fr) $$ Hr
      · iexact Hr1
    · isplitl [Hop]
      · iapply (some_each Finset.univ (fun (x : K) f => oP (F := F) d (fb (peer x.1 d)) x.2 fullShare f) fo) $$ Hop
      · iexact Hr3
  isplitl [HO]; · iexact HO
  isplitl [Hcb]; · iexact Hcb
  isplitl [Hab]; · iexact Hab
  isplitl [Hph]; · iexact Hph
  isplitl [Ht0 Ht1 Ha0 Hps]
  · isplitl [Ht0]; · iexact Ht0
    isplitl [Ht1]; · iexact Ht1
    isplitl [Ha0]; · iexact Ha0
    isplitr; · iexact Hr0
    iexact Hps
  isplitl [Hc1 Ha1]
  · isplitl [Hc1]; · iexact Hc1
    iexact Ha1
  isplitl [Hs]
  · unfold sbs; iapply (some_each Finset.univ (fun (c : Fin 4) f => sP (F := F) d c f) fs) $$ Hs
  isplitl [Hoo]
  · unfold os; iapply (some_each Finset.univ (fun (c : Fin 4) f => oP (F := F) d (fb d) c fullShare f) fo) $$ Hoo
  isplitl [Ht2 Ht3 Ha2]
  · isplitl [Ht2]; · iexact Ht2
    isplitl [Ht3]; · iexact Ht3
    isplitl [Ha2]; · iexact Ha2
    iexact Hr2
  isplitl [Hc3 Ha3]
  · isplitl [Hc3]; · iexact Hc3
    iexact Ha3
  isplitl [Hte]; · iexact Hte
  isplitl [Hpr]; · iexact Hpr
  isplitl [Hce]; · iexact Hce
  iexact Hae

/-! ## What a device leaves -/

/-- A device's own finished pieces, given back third by third, are its block of the output. -/
theorem own_back (P : Prods F) (d : Dev nD) :
    (bigSep Finset.univ fun x : K => third P d x.2 x.1 : sProp 𝕄) ⊢ bigSep Finset.univ fun c => oP d (fb d) c fullShare (outC P d) := by
  rw [bigSep_univ_prod (fun x : Fin 3 × Fin 4 => third P d x.2 x.1), bigSep_univ_comm]
  refine bigSep_mono fun c _ => ?_
  show (bigSep Finset.univ fun j : Fin 3 => third P d c j) ⊢ oP d (fb d) c fullShare (outC P d)
  rw [sep_fin3]
  refine BIBase.Entails.trans ?_ (thirds c).2
  unfold os
  iintro ⟨H0, H1, H2⟩
  isplitl [H0]; · iexact H0
  isplitl [H1]; · iexact H1
  isplitl [H2]; · iexact H2
  iempintro

/-- The invariants of a device's own cells. -/
theorem records_own (P : Prods F) (κ : GSem nD τ sig → ℕ) (d : Dev nD) :
    records P κ ⊢ bigSep Finset.univ fun o : Option (Fin 4 × K) => cellInv ER (Rd P) (κ (ocell d o)) (ocell d o) := by
  have h := bigSep_of_persistent (Finset.univ : Finset (Option (Fin 4 × K))) (records P κ)
  refine h.trans (bigSep_mono fun o _ => ?_)
  exact records_inv P κ (Finset.mem_union_right _ (Finset.mem_map_of_mem scEmb (Finset.mem_univ (d, o))))

/-- What the kernel leaves on a device, its cells closed: every buffer whole, the output final, and every semaphore at zero. -/
theorem leave :
    Done P κ d ⊢ (|={Set.univ}=> iprop((pB.view.loc (d : Thread nD τ) ↦{fullShare} P d) ∗ (oB.view.loc (d : Thread nD τ) ↦{fullShare} outC P d)
        ∗ (∃ f, rB.view.loc (d : Thread nD τ) ↦{fullShare} f) ∗ (∃ f, sB.view.loc (d : Thread nD τ) ↦{fullShare} f)
        ∗ (bigSep Finset.univ fun o => semVal (ocell d o) 0) ∗ semVal (bar d) 0 ∗ ∃ W, owes (d : Thread nD τ) 0 W) : sProp 𝕄) := by
  unfold Done
  have hts : (bigSep Finset.univ fun x => ts P d x 2 : sProp 𝕄)
      = iprop((bigSep Finset.univ fun x : K => atPos ER (dcell 0 d x) 1 ∅ 0) ∗ bigSep Finset.univ fun x : K => pSrc P d x) := by
    unfold ts; rw [bigSep_sep']
  have hrs : (bigSep Finset.univ fun x => rs P d x true : sProp 𝕄)
      = iprop((bigSep Finset.univ fun x : K => atPos ER (dcell 1 d x) 1 ∅ 0) ∗ bigSep Finset.univ fun x : K => rP d x (recvC P d)) := by
    unfold rs; rw [bigSep_sep']
  have hus : (bigSep Finset.univ fun x => us P d x 2 : sProp 𝕄)
      = iprop((bigSep Finset.univ fun x : K => atPos ER (dcell 2 d x) 1 ∅ 0) ∗ bigSep Finset.univ fun x : K => third P d x.2 x.1) := by
    unfold us; rw [bigSep_sep']
  have hvs : (bigSep Finset.univ fun x => vs P d x true : sProp 𝕄)
      = iprop((bigSep Finset.univ fun x : K => atPos ER (dcell 3 d x) 1 ∅ 0) ∗ bigSep Finset.univ fun x : K => oP d (fb (peer x.1 d)) x.2 fullShare (outC P d)) := by
    unfold vs; rw [bigSep_sep']
  have hclose := cells_close ER (Rd P) (Finset.univ : Finset (Option (Fin 4 × K))) (ocell d) (fun o => κ (ocell d o)) (Es := Set.univ)
    (fun _ _ => Set.mem_univ _) (fun _ _ => id) (fun _ => 1) (fun o _ => duties_later P (ocell d o))
  rw [bigSep_sep', option_family (fun o => atPos ER (ocell d o) 1 ∅ 0)] at hclose
  rw [hts, hrs, hus, hvs]
  iintro ⟨#HR, Hph, ⟨Ha0, Hps⟩, ⟨Ha1, Hr⟩, Hs, ⟨Ha2, Hth⟩, ⟨Ha3, Hop⟩, ⟨Hpr, Hae, Hab⟩, HO⟩
  imod hclose $$ [Hae Ha0 Ha1 Ha2 Ha3] with Hsem
  · isplitr; · iapply (records_own P κ d) $$ HR
    isplitl [Hae]; · iexact Hae
    isplitl [Ha0]; · iexact Ha0
    isplitl [Ha1]; · iexact Ha1
    isplitl [Ha2]; · iexact Ha2
    iexact Ha3
  imod (cell_close ER (Rd P) (κ := κ (bar d)) (g := bar d) (Set.mem_univ _) id (duties_later P (bar d))) $$ [Hab] with Hbar
  · isplitr; · iapply (records_inv P κ (mem_bar d)) $$ HR
    iexact Hab
  imodintro
  isplitl [Hph Hps Hpr]
  · iapply (split_p P d).2
    isplitl [Hph]; · iexact Hph
    isplitl [Hps]; · iexact Hps
    iexact Hpr
  isplitl [Hth Hop]
  · iapply (Entails.of_eq (split_o d (outC P d)).symm)
    isplitl [Hth]; · iapply (own_back P d) $$ Hth
    iexact Hop
  isplitl [Hr]
  · iexists (recvC P d)
    iapply (Entails.of_eq (split_r d (recvC P d)).symm) $$ Hr
  isplitl [Hs]
  · iapply (join_s d (sbufC P 1 d))
    iexact Hs
  isplitl [Hsem]; · iexact Hsem
  isplitl [Hbar]; · iexact Hbar
  iexact HO

end Cert.KernelIdeal.Rs
-- ==== Proof.Ideal.Body.lean ====
/-
  The kernel as the program's one pipeline runs it: what its buffers hold before and after the only point, and that the
  kernel takes the one to the other.
-/
module

public import proofs.«01_k».proof.Proof.Ideal.Ends
public import proofs.«01_k».proof.Proof.Gen.KernelIdeal.Regions
public import proofs.«01_k».proof.Proof.Gen.KernelIdeal.Points

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable {P : Prods F} {κ : GSem nD τ sig → ℕ} {d : Dev nD} {σ : Sg} {α : Type}

variable (m : (ℓ : Loc nD τ sig) → Buf (Elt F) ℓ)

/-- The product each device enters the kernel with, at its type. -/
def prods : Prods F := fun d => V1 m d main_v16

/-- What is owed as the kernel starts. -/
def O₀ (c : Dev nD) : CellTallies nD τ sig Unit := owed c s1

/-- What a device holds of the protocol as the kernel starts, its own cells opened. -/
def Xk (c : Dev nD) : sProp 𝕄 :=
  iprop(∃ κ, records (prods m) κ ∗ toks c ∗ creds c ∗ atPos ER (bar c) 0 ∅ 0 ∗ opened c)
/-- The two scratch buffers, at anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- A device's own counters at zero. -/
def zeros (c : Dev nD) : sProp 𝕄 := iprop((bigSep Finset.univ fun o => semVal (ocell c o) 0) ∗ semVal (bar c) 0)

/-- What a device's kernel holds as it starts. -/
def Φ₀ (c : Dev nD) : sProp 𝕄 := iprop((∃ r, prngReg c r) ∗ scratch c ∗ Xk m c)
/-- What a device's kernel holds as it ends. -/
def Φ₁ (c : Dev nD) : sProp 𝕄 := iprop((∃ r, prngReg c r) ∗ scratch (F := F) c ∗ zeros c)

/-- The pipeline's data: the product stays as it is, the output ends at its final contents, and everything owed is paid. -/
def dats (_ : Fin 1) (c : Dev nD) : Dat τ (Elt F) Unit ℕ UU ℕ cfg0 c where
  A w := match w with
    | ⟨0, _⟩ => V1 m c main_v16
    | ⟨1, _⟩ => V1 m c main_v17
  after w _ := match w with
    | ⟨0, _⟩ => prods m c
    | ⟨1, _⟩ => outC (prods m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer held at contents, as the pipeline says it. -/
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- What a device owes, in the form that the launch keeps it in. -/
theorem owesAt_of (c : Dev nD) (t : Fin (cfg0.N + 1)) {O : CellTallies nD τ sig Unit} (h : (dats m 0 c).owed t = O) :
    iprop(∃ W, owes (c : Thread nD τ) O W) ⊢ ((dats m 0 c).owesAt () t : sProp 𝕄) := by
  unfold Dat.owesAt Pipeline.owesWithin Dat.bound
  rw [h]
  iintro ⟨%W, H⟩
  iexists W
  isplitr; · ipureintro; exact fun _ _ => Or.inl trivial
  iexact H
/-- What a device owes, out of the form that the launch keeps it in. -/
theorem of_owesAt (c : Dev nD) (t : Fin (cfg0.N + 1)) {O : CellTallies nD τ sig Unit} (h : (dats m 0 c).owed t = O) :
    ((dats m 0 c).owesAt () t : sProp 𝕄) ⊢ iprop(∃ W, owes (c : Thread nD τ) O W) := by
  unfold Dat.owesAt Pipeline.owesWithin
  rw [h]
  iintro ⟨%W, -, H⟩
  iexists W
  iexact H

/-- The block of a window that is its whole array. -/
theorem blk_zero0 : (fun a => win0_0.index t0_0 a * win0_0.size a) = fun _ => 0 := funext fun a => by fin_cases a <;> decide
/-- The result's only block lies at the start. -/
theorem blk_zero1 : (fun a => win0_1.index t0_0 a * win0_1.size a) = fun _ => 0 := funext fun a => by fin_cases a <;> decide

/-- The product's only block is the whole of it. -/
theorem read0 (f : main_v16.ty.Contents (Elt F)) : (win0_0.blk t0_0).view.read (Elt F) f = f :=
  Memref.read_access_unit_zero (Elt F) main_v16 blk_zero0 _ f
/-- The result's only block is the whole of it. -/
theorem read1 (f : main_v17.ty.Contents (Elt F)) : (win0_1.blk t0_0).view.read (Elt F) f = f :=
  Memref.read_access_unit_zero (Elt F) main_v17 blk_zero1 _ f

/-- The product's staging buffer holds the product when the kernel starts. -/
theorem before0 (c : Dev nD) (v) : (dats m 0 c).before (0 : Fin 2) t0_0 v = prods m c := by
  unfold Dat.before
  rw [if_pos (fetch0_0 t0_0)]
  exact read0 (F := F) (V1 m c main_v16)

/-- The kernel on a device, from what the device is handed to what it leaves, beside anything. -/
theorem run_framed (P : Prods F) (κ : GSem nD τ sig → ℕ) (c : Dev nD) {R Post : sProp 𝕄}
    (h : iprop(R ∗ (pB.view.loc (c : Thread nD τ) ↦{fullShare} P c) ∗ (oB.view.loc (c : Thread nD τ) ↦{fullShare} outC P c)
        ∗ (∃ f, rB.view.loc (c : Thread nD τ) ↦{fullShare} f) ∗ (∃ f, sB.view.loc (c : Thread nD τ) ↦{fullShare} f)
        ∗ (bigSep Finset.univ fun o => semVal (ocell c o) 0) ∗ semVal (bar c) 0 ∗ ∃ W, owes (c : Thread nD τ) 0 W) ⊢ Post) :
    iprop(R ∗ records P κ ∗ toks c ∗ creds c ∗ atPos ER (bar c) 0 ∅ 0 ∗ opened c ∗ (∃ W, owes (c : Thread nD τ) (owed c s1) W)
        ∗ (pB.view.loc (c : Thread nD τ) ↦{fullShare} P c) ∗ (∃ f, oB.view.loc (c : Thread nD τ) ↦{fullShare} f)
        ∗ (∃ f, rB.view.loc (c : Thread nD τ) ↦{fullShare} f) ∗ (∃ f, sB.view.loc (c : Thread nD τ) ↦{fullShare} f))
      ⊢ Run c (cc0__rs_ag_body pB (Memref.isWhole_whole _) oB (Memref.isWhole_whole _) rB (Memref.isWhole_whole _) sB (Memref.isWhole_whole _)
        cc0_scratch2 cc0_scratch3 cc0_scratch4 cc0_scratch5 cc0_scoped0) fun _ => Post :=
  (sep_mono_right (enter.trans (kernel_run _ _ _ _ leave))).trans ((wp_frame_l _ _ _).trans (wp_mono _ _ _ fun _ => h))

/-- The kernel takes what its buffers hold before the point to what they hold after it. -/
theorem body (c : Dev nD) : BodyObligation (dats m 0 c) (defs₀ (F := F)) 𝒱₀ () Set.univ := fun t => by
  rw [fin_N0 t, bigSep_W0, bigSep_W0]
  show iprop(Φ₀ m c ∗ (dats m 0 c).owesAt () t0_0.castSucc
      ∗ (∃ v, owns (c : Thread nD τ) (Memref.whole cc0_stg0_0) fullShare ((dats m 0 c).before (0 : Fin 2) t0_0 v))
      ∗ (∃ v, owns (c : Thread nD τ) (Memref.whole cc0_stg1_0) fullShare ((dats m 0 c).before (1 : Fin 2) t0_0 v)))
    ⊢ Run c (cc0__rs_ag_body pB (Memref.isWhole_whole _) oB (Memref.isWhole_whole _) rB (Memref.isWhole_whole _) sB (Memref.isWhole_whole _)
        cc0_scratch2 cc0_scratch3 cc0_scratch4 cc0_scratch5 cc0_scoped0)
      fun _ => iprop(Φ₁ c ∗ (dats m 0 c).owesAt () t0_0.succ
        ∗ owns (c : Thread nD τ) (Memref.whole cc0_stg0_0) fullShare (prods m c)
        ∗ owns (c : Thread nD τ) (Memref.whole cc0_stg1_0) fullShare (outC (prods m) c))
  simp only [owns_whole_eq, before0]
  unfold Φ₀ Xk
  iintro ⟨⟨Hreg, Hscr, ⟨%κ, HX⟩⟩, HO, ⟨%v0, ⟨%f0, %e0, Hp⟩⟩, ⟨%v1, ⟨%f1, -, Ho⟩⟩⟩
  subst e0
  ihave HO := (of_owesAt m c t0_0.castSucc (O := owed c s1) rfl) $$ HO
  icases HX with ⟨HR, Ht, Hc, Hb, Hop⟩
  unfold scratch
  icases Hscr with ⟨Hr, Hs⟩
  iapply (run_framed (prods m) κ c (R := iprop(∃ r, prngReg c r)) (by
    unfold Φ₁ scratch zeros
    iintro ⟨Hreg, Hp, Ho, Hr, Hs, Hz, Hb, HO⟩
    isplitl [Hreg Hr Hs Hz Hb]
    · isplitl [Hreg]; · iexact Hreg
      isplitl [Hr Hs]
      · isplitl [Hr]; · iexact Hr
        iexact Hs
      isplitl [Hz]; · iexact Hz
      iexact Hb
    isplitl [HO]; · iapply (owesAt_of m c t0_0.succ (O := 0) rfl) $$ HO
    isplitl [Hp]
    · iexists (prods m c)
      isplitr; · ipureintro; rfl
      iexact Hp
    iexists (outC (prods m) c)
    isplitr; · ipureintro; rfl
    iexact Ho))
  isplitl [Hreg]; · iexact Hreg
  isplitl [HR]; · iexact HR
  isplitl [Ht]; · iexact Ht
  isplitl [Hc]; · iexact Hc
  isplitl [Hb]; · iexact Hb
  isplitl [Hop]; · iexact Hop
  isplitl [HO]; · iexact HO
  isplitl [Hp]; · iexact Hp
  isplitl [Ho]; · iexists f1; iexact Ho
  isplitl [Hr]; · iexact Hr
  iexact Hs

end Cert.KernelIdeal.Rs
-- ==== Proof.Ideal.Deal.lean ====
/-
  What the launch deals out: the rights to pay each duty, to the device that pays it, and the credit each device's cells
  will be given, counted from what every device owes.
-/
module

public import proofs.«01_k».proof.Proof.Ideal.Body

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Prods F} {κ : GSem nD τ sig → ℕ} {d : Dev nD} {σ : Sg} {α : Type}

/-! ## The rights -/

/-- The duties of one cell each: on the entry barrier, on the exit barrier, on the transfers. -/
abbrev Dut : Type := (Fin 5 ⊕ Fin 5) ⊕ Fin 4 × K
/-- The semaphore a duty is on, and which of its duties it is. -/
def dutAt : Dut → SemLoc sig × Fin 5
  | .inl (.inl k) => (.reg barS, k)
  | .inl (.inr k) => (.reg exitS, k)
  | .inr p => (.dma (dsem p.1 p.2), 0)
/-- Different places pay different duties. -/
theorem dutAt_inj : Function.Injective dutAt := by
  rintro ((a | a) | ⟨t, x⟩) ((b | b) | ⟨t', x'⟩) h <;> have h1 := congrArg Prod.fst h <;> have h2 := congrArg Prod.snd h
  · exact congrArg (fun k => Sum.inl (Sum.inl k)) h2
  · exact absurd h1 (by decide : ¬ (SemLoc.reg barS : SemLoc sig) = .reg exitS)
  · cases h1
  · exact absurd h1 (by decide : ¬ (SemLoc.reg exitS : SemLoc sig) = .reg barS)
  · exact congrArg (fun k => Sum.inl (Sum.inr k)) h2
  · cases h1
  · cases h1
  · cases h1
  · obtain ⟨rfl, rfl⟩ := dsem_inj (SemLoc.dma.inj h1); rfl
/-- Every duty of the launch. -/
def allToks : Finset (GSem nD τ sig × ℕ × Fin 5) :=
  Finset.univ.map ⟨fun p : Dev nD × Dut => (((p.1 : Thread nD τ), (dutAt p.2).1), 0, (dutAt p.2).2), fun a b h =>
    Prod.ext (congrArg (fun t : GSem nD τ sig × ℕ × Fin 5 => t.1.1.1) h)
      (dutAt_inj (Prod.ext (congrArg (fun t : GSem nD τ sig × ℕ × Fin 5 => t.1.2) h) (congrArg (fun t : GSem nD τ sig × ℕ × Fin 5 => t.2.2) h)))⟩

/-- A family over devices and slots, each slot's devices permuted. -/
theorem move {A : Type} [Fintype A] {M : Type} [URA M] (e : A → Dev nD ≃ Dev nD) (Φ : Dev nD → A → sProp M) :
    (bigSep Finset.univ fun d => bigSep Finset.univ fun a => Φ d a) = bigSep Finset.univ fun d => bigSep Finset.univ fun a => Φ (e a d) a := by
  rw [bigSep_univ_comm, bigSep_univ_comm (fun d a => Φ (e a d) a)]
  exact bigSep_congr fun a _ => bigSep_univ_equiv (e a) (fun d => Φ d a)

/-- Every right, each with the device that pays the duty. -/
theorem toks_dealt : bigSep allToks (fun x => (dutyTok ER x.1 x.2.1 x.2.2 : sProp 𝕄)) ⊢ bigSep Finset.univ fun c : Dev nD => toks c := by
  unfold allToks toks
  rw [bigSep_map, bigSep_univ_prod]
  have e (c : Dev nD) : (bigSep Finset.univ fun u : Dut => (dutyTok ER ((c : Thread nD τ), (dutAt u).1) 0 (dutAt u).2 : sProp 𝕄))
      = iprop(((bigSep Finset.univ fun k : Fin 5 => dutyTok ER (bar c) 0 k) ∗ (bigSep Finset.univ fun k : Fin 5 => dutyTok ER (exit c) 0 k))
        ∗ (bigSep Finset.univ fun x : K => dutyTok ER (dcell 0 c x) 0 0) ∗ (bigSep Finset.univ fun x : K => dutyTok ER (dcell 1 c x) 0 0)
        ∗ (bigSep Finset.univ fun x : K => dutyTok ER (dcell 2 c x) 0 0) ∗ (bigSep Finset.univ fun x : K => dutyTok ER (dcell 3 c x) 0 0)) := by
    rw [BI.bigSep_univ_sum, BI.bigSep_univ_sum, bigSep_univ_prod]
    refine congrArg (fun r : sProp 𝕄 => iprop(((bigSep Finset.univ fun k : Fin 5 => dutyTok ER (bar c) 0 k)
      ∗ (bigSep Finset.univ fun k : Fin 5 => dutyTok ER (exit c) 0 k)) ∗ r)) ?_
    exact bigSep_univ_eq_bigSepL [0, 1, 2, 3] (by decide) (by decide) _
  refine (Entails.of_eq (bigSep_congr fun c _ => e c)).trans ?_
  simp only [bigSep_sep']
  rw [move (fun k => nbEquiv k) (fun d k => (dutyTok ER (bar d) 0 k : sProp 𝕄)), move (fun k => nbEquiv k) (fun d k => (dutyTok ER (exit d) 0 k : sProp 𝕄)),
    move (fun _ => nbEquiv 0) (fun d x => (dutyTok ER (dcell 1 d x) 0 0 : sProp 𝕄)),
    move (fun x : K => nbEquiv (pk x.1)) (fun d x => (dutyTok ER (dcell 3 d x) 0 0 : sProp 𝕄))]
  iintro ⟨⟨Hb, He⟩, H0, H1, H2, H3⟩
  isplitl [Hb]; · iexact Hb
  isplitl [He]; · iexact He
  isplitl [H0]; · iexact H0
  isplitl [H1]; · iexact H1
  isplitl [H2]; · iexact H2
  iexact H3

/-! ## The credits -/

/-- A sum over devices and slots, each slot's devices permuted. -/
theorem sum_move {A : Type} [Fintype A] (e : A → Dev nD ≃ Dev nD) (f : Dev nD → A → ℕ) : ∑ d, ∑ a, f (e a d) a = ∑ d, ∑ a, f d a := by
  rw [Finset.sum_comm, Finset.sum_comm (f := fun d a => f d a)]
  exact Finset.sum_congr rfl fun a _ => Equiv.sum_comp (e a) (fun d => f d a)

/-- What all the devices together owe a cell. -/
theorem owed_sum (g : GSem nD τ sig) : ∑ d, O₀ d g () =
    ((∑ d, ∑ x : K, tallyAt (dcell 1 d x) () N g ()) + (∑ d, ∑ x : K, tallyAt (dcell 3 d x) () N g ()))
      + ((∑ d, ∑ _k : Fin 5, tallyAt (bar d) () 1 g ()) + (∑ d, ∑ _k : Fin 5, tallyAt (exit d) () 1 g ())) := by
  rw [← sum_move (fun _ => nbEquiv 0) (fun d (x : K) => tallyAt (dcell 1 d x) () N g ()),
    ← sum_move (fun x : K => nbEquiv (pk x.1)) (fun d x => tallyAt (dcell 3 d x) () N g ()),
    ← sum_move (fun k => nbEquiv k) (fun d _ => tallyAt (bar d) () 1 g ()),
    ← sum_move (fun k => nbEquiv k) (fun d _ => tallyAt (exit d) () 1 g ()),
    ← Finset.sum_add_distrib, ← Finset.sum_add_distrib, ← Finset.sum_add_distrib]
  refine Finset.sum_congr rfl fun d _ => ?_
  have e : O₀ d = ((∑ x : K, tallyAt (dcell 1 (zn d) x) () N) + (∑ x : K, tallyAt (dcell 3 (peer x.1 d) x) () N))
      + ((∑ k : Fin 5, tallyAt (bar (nb k d)) () 1) + (∑ k : Fin 5, tallyAt (exit (nb k d)) () 1)) := rfl
  rw [e]
  simp only [Pi.add_apply, Finset.sum_apply, Finsupp.add_apply, Finsupp.finset_sum_apply]
  rfl

/-- When two copy semaphores are the same. -/
theorem dsem_eq {t t' : Fin 4} {x x' : K} : dsem t x = dsem t' x' ↔ t = t' ∧ x = x' := ⟨dsem_inj, fun ⟨h, h'⟩ => h ▸ h' ▸ rfl⟩
/-- When two devices' copy semaphores are the same. -/
theorem dcell_eq {t t' : Fin 4} {d d' : Dev nD} {x x' : K} : dcell t d x = dcell t' d' x' ↔ t = t' ∧ d = d' ∧ x = x' := by
  constructor
  · intro h
    have h1 : (d, some (t, x)) = (d', some (t', x')) := scEmb.injective h
    injection h1 with h1 h2
    injection h2 with h2
    injection h2 with h2 h3
    exact ⟨h2, h1, h3⟩
  · rintro ⟨rfl, rfl, rfl⟩; rfl
/-- When two first barriers are the same. -/
theorem bar_eq {d d' : Dev nD} : bar d = bar d' ↔ d = d' := ⟨fun h => barEmb.injective h, fun h => h ▸ rfl⟩
/-- When two last barriers are the same. -/
theorem exit_eq {d d' : Dev nD} : exit d = exit d' ↔ d = d' :=
  ⟨fun h => by have h1 : (d, (none : Option (Fin 4 × K))) = (d', none) := scEmb.injective h; exact (Prod.mk.inj h1).1, fun h => h ▸ rfl⟩
/-- The first barrier is not the last. -/
theorem bar_ne_exit {d d' : Dev nD} : ¬ bar d = exit d' := fun h =>
  absurd (congrArg Prod.snd h) (by decide : ¬ (SemLoc.reg barS : SemLoc sig) = .reg exitS)
/-- The first barrier is no copy semaphore. -/
theorem bar_ne_dcell {t : Fin 4} {d d' : Dev nD} {x : K} : ¬ bar d = dcell t d' x := fun h => by cases congrArg Prod.snd h
/-- The last barrier is no copy semaphore. -/
theorem exit_ne_dcell {t : Fin 4} {d d' : Dev nD} {x : K} : ¬ exit d = dcell t d' x := fun h => by cases congrArg Prod.snd h

/-- All devices together owe a first barrier five units. -/
theorem credit_bar (c : Dev nD) : ∑ d, O₀ d (bar c) () = 5 := by
  rw [owed_sum]
  simp [tallyAt_apply, bar_eq, bar_ne_exit, bar_ne_dcell]
/-- All devices together owe a last barrier five units. -/
theorem credit_exit (c : Dev nD) : ∑ d, O₀ d (exit c) () = 5 := by
  rw [owed_sum]
  simp [tallyAt_apply, exit_eq, fun d d' => Ne.symm (bar_ne_exit (d := d) (d' := d')), exit_ne_dcell]
/-- All devices together owe a landing one copy's credit. -/
theorem credit_dma (t : Fin 4) (ht : t = 1 ∨ t = 3) (c : Dev nD) (x : K) : ∑ d, O₀ d (dcell t c x) () = N := by
  rw [owed_sum]
  have h1 (d d' x) : ¬ dcell t d x = bar d' := fun h => bar_ne_dcell h.symm
  have h2 (d d' x) : ¬ dcell t d x = exit d' := fun h => exit_ne_dcell h.symm
  have h3 : ∑ p : Dev nD × K, (if c = p.1 ∧ x = p.2 then N else 0) = N := by
    rw [Finset.sum_eq_single (c, x) (fun p _ hp => if_neg fun h => hp (Prod.ext h.1.symm h.2.symm)) (fun h => absurd (Finset.mem_univ _) h), if_pos ⟨rfl, rfl⟩]
  rcases ht with rfl | rfl <;>
    simpa [tallyAt_apply, h1, h2, dcell_eq, dsem_eq, Fintype.sum_prod_type] using h3

/-- A cell's launch credit, as the tally of what is owed it. -/
theorem launch_tally {g : GSem nD τ sig} {n : ℕ} (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The semaphores of a device that will be credited: the entry barrier's and the others'. -/
def osem' : Option (Option (Fin 4 × K)) → SemLoc sig
  | none => .reg barS
  | some o => osem o
/-- Different numbers are different semaphores. -/
theorem osem'_inj : Function.Injective osem' := by
  rintro (_ | a) (_ | b) h
  · rfl
  · rcases b with _ | b
    · exact absurd h (by decide)
    · cases h
  · rcases a with _ | a
    · exact absurd h (by decide)
    · cases h
  · exact congrArg some (osem_inj h)

/-- A family over the credited semaphores, kind by kind. -/
theorem credited_family (Φ : Option (Option (Fin 4 × K)) → sProp 𝕄) :
    bigSep Finset.univ Φ = iprop(Φ none ∗ Φ (some none) ∗ (bigSep Finset.univ fun x => Φ (some (some (0, x))))
      ∗ (bigSep Finset.univ fun x => Φ (some (some (1, x)))) ∗ (bigSep Finset.univ fun x => Φ (some (some (2, x))))
      ∗ (bigSep Finset.univ fun x => Φ (some (some (3, x))))) := by
  rw [bigSep_erase (Finset.mem_univ (none : Option (Option (Fin 4 × K)))),
    show Finset.univ.erase (none : Option (Option (Fin 4 × K))) = Finset.univ.map Function.Embedding.some from by ext o; cases o <;> simp,
    bigSep_map, option_family]
  rfl

/-- Four of six. -/
theorem take_four (A B C D E G : sProp 𝕄) : iprop(A ∗ B ∗ C ∗ D ∗ E ∗ G) ⊢ iprop(A ∗ B ∗ D ∗ G) := by
  iintro ⟨Hb, He, -, H1, -, H3⟩
  isplitl [Hb]; · iexact Hb
  isplitl [He]; · iexact He
  isplitl [H1]; · iexact H1
  iexact H3

/-- What a device's cells will be credited. -/
theorem creds_of (c : Dev nD) : (Pipeline.launchCred O₀ c : sProp 𝕄) ⊢ creds c := by
  unfold Pipeline.launchCred creds
  refine (bigSep_subset (t := Finset.univ.map ⟨osem', osem'_inj⟩) (Finset.subset_univ _)).trans ?_
  rw [bigSep_map, credited_family, ← launch_tally (credit_bar c), ← launch_tally (credit_exit c),
    bigSep_congr fun x _ => congrArg cred (launch_tally (credit_dma 1 (.inl rfl) c x)).symm,
    bigSep_congr fun x _ => congrArg cred (launch_tally (credit_dma 3 (.inr rfl) c x)).symm]
  exact take_four _ _ _ _ _ _

end Cert.KernelIdeal.Rs
-- ==== Proof.Ideal.Launch.lean ====
/-
  The launch: the protocol's cells made, everything dealt to the devices, the kernel's region entered and left, and what the whole
  run leaves: the arguments as they were, each device's output at its final contents, every counter at zero.
-/
module

public import proofs.«01_k».proof.Proof.Ideal.Deal
public import Idealize.ShloMosaic.Lib.Pipeline.RegionTalk

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable {P : Prods F} {κ : GSem nD τ sig → ℕ} {d : Dev nD} {σ : Sg} {α : Type}

variable (m : (ℓ : Loc nD τ sig) → Buf (Elt F) ℓ) (ρ : Dev nD → PrngReg)

/-! ## The region -/

/-- What stays with a device of the protocol from the launch to the kernel. -/
def linear (c : Dev nD) : sProp 𝕄 :=
  iprop(atPos ER (bar c) 0 ∅ 0 ∗ (bigSep Finset.univ fun o => openTok ER (ocell c o)) ∗ toks c)
/-- What a device takes into the kernel besides its buffers. -/
def Tk (c : Dev nD) : sProp 𝕄 := iprop((∃ κ, records (prods m) κ ∗ linear c) ∗ creds c)
/-- What a device brings out of the kernel besides its buffers. -/
def Yk (c : Dev nD) : sProp 𝕄 := semVal (bar c) 0

/-- Entering the kernel opens the device's own cells. -/
theorem opens (c : Dev nD) : iprop(Tk m c ∗ Pipeline.ownSems0 osem c ∗ levAts L lv) ⊢ (|={Set.univ}=> Xk m c : sProp 𝕄) := by
  unfold Tk Xk Pipeline.ownSems0 linear
  iintro ⟨⟨⟨%κ, #HR, Hat, Ho, Ht⟩, Hc⟩, Hs, -⟩
  imod (cells_open ER (Rd (prods m)) Finset.univ (ocell c) (fun o => κ (ocell c o)) (fun _ _ => Set.mem_univ _)) $$ [Ho Hs] with Hop
  · isplitr [Hs]
    · rw [bigSep_sep']
      isplitr [Ho]
      · iapply (records_own (prods m) κ c) $$ HR
      · iexact Ho
    · iexact Hs
  imodintro
  iexists κ
  isplitr; · iexact HR
  isplitl [Ht]; · iexact Ht
  isplitl [Hc]; · iexact Hc
  isplitl [Hat]; · iexact Hat
  unfold opened
  iexact Hop

/-- The facts of the launch that the program's text decides. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the kernel leaves in its output's array. -/
def outs : Outs (F := F) := fun _ r c => if h : r = main_v17 then h ▸ (outC (prods m) c : Buf (Elt F) ((c : Thread nD τ).loc main_v17)) else V1 m c r
/-- The result that the kernel leaves. -/
theorem outs_v17 (c : Dev nD) : outs m 2 main_v17 c = outC (prods m) c := by unfold outs; rw [dif_pos rfl]
/-- The result's buffer after the kernel. -/
theorem V2_v17 (c : Dev nD) : V2 m (outs m) c main_v17 = outC (prods m) c := by
  unfold V2; rw [Function.update_self, outs_v17]

/-- The pipeline's arrays. -/
abbrev arrs : Finset (DevRef τ sig) := Pipeline.arrRefs (τ := τ) (pcfgs (F := F) 0).spec
/-- The unscoped buffers the pipeline does not address. -/
abbrev others : Finset (DevRef τ sig) := Pipeline.ucRefs τ sig \ arrs (F := F)

/-- The levels serve the copies into and out of the kernel and the protocol. -/
theorem levels_cut : Pipeline.LevelCutOwed (pcfgs (F := F)) adm (dats m) () L lv 0 (fun _ => 0) where
  hι c w s := L_tc _ _
  hιb c w s := by
    match w with
    | ⟨0, _⟩ => exact (by decide : ∀ s : Fin 1, semLv (.dma (win0_0.sem s)) ≤ 0) s
    | ⟨1, _⟩ => exact (by decide : ∀ s : Fin 1, semLv (.dma (win0_1.sem s)) ≤ 0) s
  hD c t g i h := by
    match t with
    | ⟨0, _⟩ => exact ⟨owed_L (σ := s1) h, owed_above 0 (fun x _ => by omega) (by omega) (fun _ _ => by omega) (σ := s1) h⟩
    | ⟨_ + 1, _⟩ => exact absurd h (Nat.lt_irrefl 0)

/-- A device's resources as its kernel starts. -/
theorem enters (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (dats m 0 c).Φ 0 := by
  rw [show (dats m 0 c).Φ 0 = Φ₀ m c from rfl]
  unfold Φ₀ scratch
  rw [show (Pipeline.scopedRest (Pipeline.pin (pcfgs (F := F)) adm 0).spec c : sProp 𝕄) = _ from scopedRest0_eq c]
  iintro ⟨Hs, Hp, -, HX⟩
  isplitl [Hp]; · iexact Hp
  isplitl [Hs]; · iexact Hs
  iexact HX

/-- A device's resources as its kernel ends. -/
theorem leaves (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (dats m 0 c).Φ (Fin.last _) = Φ₁ c from rfl,
    show (Pipeline.scopedRest (Pipeline.pin (pcfgs (F := F)) adm 0).spec c : sProp 𝕄) = _ from scopedRest0_eq c]
  unfold Φ₁ scratch zeros Pipeline.ownSems0 Yk StableHlo.held
  rw [BI.bigSep_empty]
  iintro ⟨Hp, Hs, Hz, Hb⟩
  isplitl [Hs]; · iexact Hs
  isplitl [Hp]; · iexact Hp
  isplitr; · iempintro
  isplitl [Hz]; · iexact Hz
  iexact Hb

/-- The pipeline ends with the product as it was and the output at its final contents. -/
theorem arr_end (c : Dev nD) : ∀ w, (dats m 0 c).arrAt w (Pipeline.pin (pcfgs (F := F)) adm 0).N
    = V2 m (outs m) c (Proc.devRef .tc (Pipeline.arrRef (Pipeline.pin (pcfgs (F := F)) adm 0).spec w)) := by
  intro w
  match w with
  | ⟨0, _⟩ =>
    show (dats m 0 c).arrAt (0 : Fin 2) 1 = V2 m (outs m) c main_v16
    rw [V2_of m (outs m) c main_v16 (by decide)]
    exact (dats m 0 c).arrAt_in (w := (0 : Fin 2)) rfl _
  | ⟨1, _⟩ =>
    show (dats m 0 c).arrAt (1 : Fin 2) 1 = V2 m (outs m) c main_v17
    rw [V2_v17]
    refine ((dats m 0 c).arrAt_succ (1 : Fin 2) t0_0).trans ?_
    rw [if_pos (flush0_1 t0_0)]
    exact (read1 (F := F) _).symm.trans (View.read_write_univ _ _)

set_option backward.isDefEq.respectTransparency.types false in
/-- The kernel's region. -/
def reg : RegionSeg (pcfgs (F := F)) adm (dats m) () defs₀ 𝒱₀ L lv 0 :=
  Pipeline.RegionSeg.ofTalk (pcfgs (F := F)) adm (dats m) () defs₀ 𝒱₀ L lv 0 osem
    (by decide : Pipeline.OwnSemFacts spec0 osem) ∅ (others (F := F)) (Finset.empty_subset _) kit rfl (fun c => (body m c).loose)
    (fun _ => 0) O₀ (fun c => (zero_add (O₀ c)).symm) (fun _ => rfl) (fun _ => rfl) (fun _ w => by unfold Dat.share; split <;> rfl)
    (V1 m) (V2 m (outs m))
    (fun c b hb => by
      refine Function.update_of_ne (fun h => ?_) _ _
      subst h
      rw [Finset.sdiff_empty] at hb
      exact (Finset.mem_sdiff.mp hb).2 (Finset.mem_map_of_mem _ (Finset.mem_image_of_mem _ (Finset.mem_univ (1 : Fin 2)))))
    (Tk m) Yk (Xk m) Yk (opens m) (enters m) (leaves m) (fun c => by iintro H; imodintro; iexact H)
    (fun _ => 0) (levels_cut m) (fun _ => iprop(emp))
    (fun c w => by match w with | ⟨0, _⟩ => rfl | ⟨1, _⟩ => rfl)
    (arr_end m)

/-- What rides along with the unscoped buffers before the kernel. -/
def rest (c : Dev nD) : sProp 𝕄 := iprop((∃ r, prngReg c r) ∗ Tk m c ∗ ∃ W, owes (c : Thread nD τ) (O₀ c) W)

/-- A device's arrays are those of the kernel and the others. -/
theorem uc_split (c : Dev nD) (V : Valuation τ sig (Elt F)) : (StableHlo.held (c : Thread nD τ) (Pipeline.ucRefs τ sig) V : sProp 𝕄)
    = iprop(StableHlo.held (c : Thread nD τ) (arrs (F := F)) V ∗ StableHlo.held (c : Thread nD τ) (others (F := F)) V) :=
  StableHlo.held_sub_split _ (Pipeline.arrRefs_sub_ucRefs _ (by decide : ∀ w, (Pipeline.arrRef spec0 w).isScoped = false)) V

/-- What the kernel's region needs, from what the host's part leaves. -/
theorem reg_pre (c : Dev nD) : iprop(StableHlo.held (c : Thread nD τ) (Pipeline.ucRefs τ sig) (V1 m c) ∗ rest m c) ⊢ (reg m).pre c := by
  show _ ⊢ iprop(StableHlo.held (c.tc : Thread nD τ) (arrs (F := F)) (V1 m c) ∗ (∃ r, prngReg c r)
    ∗ (StableHlo.held (c.tc : Thread nD τ) (others (F := F)) (V1 m c) ∗ emp) ∗ Tk m c ∗ ∃ Wd, owes (c : Thread nD τ) (0 + O₀ c) Wd)
  rw [uc_split, zero_add]
  unfold rest
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- What a device ends the run with. -/
def final (c : Dev nD) : sProp 𝕄 := iprop(StableHlo.held (c : Thread nD τ) (Pipeline.ucRefs τ sig) (V2 m (outs m) c) ∗ semVal (bar c) 0)

/-- What the kernel's region leaves, as what the program ends with. -/
theorem reg_post (c : Dev nD) : (reg m).post c ⊢ iprop(final m c ∗ ∃ W, owes (c : Thread nD τ) (0 : CellTallies nD τ sig Unit) W) := by
  show iprop(StableHlo.held (c.tc : Thread nD τ) (arrs (F := F)) (V2 m (outs m) c) ∗ (∃ r, prngReg c r)
    ∗ (StableHlo.held (c.tc : Thread nD τ) (others (F := F)) (V2 m (outs m) c) ∗ emp) ∗ Yk c ∗ ∃ Wd, owes (c : Thread nD τ) (0 : CellTallies nD τ sig Unit) Wd) ⊢ _
  unfold final Yk
  rw [uc_split]
  iintro ⟨Ha, -, ⟨Hr, -⟩, Hb, HO⟩
  isplitr [HO]
  · isplitr [Hb]
    · isplitl [Ha] <;> iassumption
    · iexact Hb
  iexact HO

/-! ## The launch -/

/-- The first barriers are not among the kernel's own semaphores. -/
theorem cells_disjoint : Disjoint barCells scCells := by
  rw [Finset.disjoint_left]
  rintro g h₁ h₂
  obtain ⟨c, -, rfl⟩ := Finset.mem_map.mp h₁
  obtain ⟨⟨c', o⟩, -, h⟩ := Finset.mem_map.mp h₂
  have h' : osem' (some o) = osem' none := congrArg Prod.snd h
  cases osem'_inj h'

/-- What the protocol starts from. -/
abbrev start₀ : URounds (GSem nD τ sig) (Fin 5) := launchOf barCells scCells allToks
/-- The state that the launch starts from. -/
def u₀ : UU := (initOf (Pipeline.cells cfgs cellOf_inj) (Pipeline.launchToks cfgs cellOf_inj), start₀)

/-- A holding given to one device among all. -/
def onDev (X : sProp 𝕄) (c : Dev nD) : sProp 𝕄 := if c = 0 then X else iprop(emp)
/-- What is given to one device is given once. -/
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
/-- The protocol's state, given to one device. -/
def G : Dev nD → sProp 𝕄 := onDev (BI.own (ER start₀))

/-- The first barrier is the only semaphore outside the kernel. -/
theorem unscoped_eq : ∀ sm : SemLoc sig, sm.isScoped .tc = false → sm = .reg barS := by decide
/-- A device's counters outside the kernel: its first barrier's. -/
theorem unscoped_counters (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

/-- A device's own part of the launch. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

/-- What a device's program starts from. -/
abbrev T₀ (c : Dev nD) : sProp 𝕄 := iprop(StableHlo.held (c : Thread nD τ) (Pipeline.ucRefs τ sig) (V0 m c) ∗ rest m c)

/-- A device's share of the dealt resources is what its program starts from. -/
theorem deal (κ : GSem nD τ sig → ℕ) (c : Dev nD) : iprop(records (prods m) κ ∗ (linear c ∗ bundle m c)) ⊢ T₀ m c := by
  unfold bundle T₀ rest Tk
  iintro ⟨#HR, Hl, Hh, Hc, HO, Hp⟩
  isplitl [Hh]; · iexact Hh
  isplitl [Hp]; · iexact Hp
  isplitr [HO]
  · isplitl [Hl]
    · iexists κ
      isplitr; · iexact HR
      iexact Hl
    iexact Hc
  · iexists ∅; iexact HO

/-- A device's resources at the launch, ordered. -/
theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (bar c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscoped_counters]
  unfold bundle
  iintro ⟨Hh, Hus, HO, Hcr, Hp, HG⟩
  ihave Hc := (creds_of (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The semaphores to be opened, device by device. -/
theorem open_each : bigSep scCells (fun g => (openTok ER g : sProp 𝕄))
    ⊢ bigSep Finset.univ fun c : Dev nD => bigSep Finset.univ fun o => openTok ER (ocell c o) := by
  unfold scCells
  rw [bigSep_map, bigSep_univ_prod]
  exact BI.Entails.refl _

/-- The launch makes the cells and deals everything. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hcore : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => bundle m c) ∗ (bigSep Finset.univ fun c : Dev nD => semVal (bar c) 0)
        ∗ bigSep Finset.univ fun c : Dev nD => G c) : sProp 𝕄) := by
    rw [← bigSep_sep', ← bigSep_sep']
    exact bigSep_mono fun c _ => core m ρ c
  have hlin : iprop((bigSep Finset.univ fun c : Dev nD => atPos ER (bar c) 0 ∅ 0)
        ∗ (bigSep Finset.univ fun c : Dev nD => bigSep Finset.univ fun o => openTok ER (ocell c o))
        ∗ (bigSep Finset.univ fun c : Dev nD => toks c) ∗ bigSep Finset.univ fun c : Dev nD => bundle m c)
      ⊢ (bigSep Finset.univ fun c : Dev nD => iprop(linear c ∗ bundle m c) : sProp 𝕄) := by
    unfold linear
    simp only [bigSep_sep']
    iintro ⟨Ha, Ho, Ht, Hb⟩
    isplitr [Hb]
    · isplitl [Ha]; · iexact Ha
      isplitl [Ho] <;> iassumption
    · iexact Hb
  iintro ⟨H, #Hlev⟩
  ihave H' := hcore $$ H
  icases H' with ⟨HB, Hv, HG⟩
  ihave Hu := (show bigSep Finset.univ (fun c => G (F := F) c) ⊢ BI.own (ER start₀) from Entails.of_eq (bigSep_onDev (BI.own (ER start₀)))) $$ HG
  imod (Rounds.fund_launch ER (Rd (prods m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records (prods m) κ) (Φ := fun c => iprop(linear c ∗ bundle m c)) fun c _ => deal m κ c)
  isplitr
  · unfold records
    isplitr; · iexact Hinv
    isplitr; · iexact Hr
    iexact Hlev
  iapply hlin
  isplitl [Hat]; · iapply hat $$ Hat
  isplitl [Hopen]; · iapply (open_each (F := F)) $$ Hopen
  isplitl [Htok]; · iapply (toks_dealt (F := F)) $$ Htok
  iexact HB

/-! ## The run -/

/-- What the run leaves on a device. -/
def left (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v17) = outC (prods m) c)
  ∧ s.sem (bar c) = 0

/-- At the end the memory is as claimed. -/
theorem ends (c : Dev nD) (s' : Phys nD τ sig (Elt F)) : iprop(final m c ∗ SI s') ⊢ (|={Set.univ}=> iprop(⌜left m c s'.mem⌝ ∗ SI s') : sProp 𝕄) := by
  unfold final StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V2_main_arg0 m _ c),
      (h (Proc.devRef .tc main_arg1) (Finset.mem_filter.mpr ⟨StableHlo.devRef_mem_tcRefs main_arg1, by decide⟩)).trans (V2_main_arg1 m _ c),
      (h (Proc.devRef .tc main_v17) (Finset.mem_filter.mpr ⟨StableHlo.devRef_mem_tcRefs main_v17, by decide⟩)).trans (V2_v17 m c)⟩,
      by simpa using hb⟩
  · iexact HSI

set_option backward.isDefEq.respectTransparency.types false in
/-- From any memory with every counter at zero, every weakly fair run of the program on all the devices terminates; it leaves
    both arguments as they were, each device's output at the sum it should hold, and every counter at zero. -/
theorem run : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v17) = outC (prods m) c) ∧ r.2.sem = fun _ => 0) :=
  Pipeline.θ_run_regions_kit_dev_sems (pcfgs (F := F)) adm (dats m) () cellOf_inj EP defs₀ 𝒱₀ L lv m ρ main
    (segs m 𝒱₀ L lv (fun _ => rest m) () (dats m) (reg m))
    (fun c Q => by
      rewrite [main_chain c, Seg.run_eq_chain,
        show (segs m 𝒱₀ L lv (fun _ => rest m) () (dats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ m) (final m) (fun c => ⟨.rfl, reg_pre m c, reg_post m c⟩) (init m ρ) (left m) (ends m)
    (fun s h hs => ⟨fun c => (h c).1, sem_eq_zero hs fun c sm hsm => by
      obtain rfl := unscoped_eq sm hsm
      exact (h c).2⟩)

end Cert.KernelIdeal.Rs
-- ==== Proof.Ideal.Values.lean ====
/-
  What the kernel computes at exact arithmetic: each device's output is its block of rows of the whole product of the transposed
  first array and the second.
-/
module

public import proofs.«01_k».proof.Proof.Ideal.Launch
public import proofs.«01_k».proof.Proof.Gen.ReferenceIdeal.Run
public import Idealize.ShloMosaic.Lib.Layout
public import Idealize.ShloMosaic.Lib.ValueLayout
public import Idealize.ShloMosaic.Lib.StackMember
public import Idealize.ShloMosaic.Lib.MatmulPlain
public import Idealize.ShloMosaic.Lib.WordCmp

@[expose] public section

set_option maxRecDepth 8192

noncomputable section

namespace Cert.KernelIdeal.Rs

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {P : Prods F} {κ : GSem nD τ sig → ℕ} {d : Dev nD} {σ : Sg} {α : Type}

/-! ## The ring's sum -/

/-- The device at ring position `z` that reduces the column block of `d`. -/
def ringAt (d : Dev nD) (z : Fin 4) : Dev nD := ⟨4 * (fb d).val + z.val, by have := (fb d).isLt; have := z.isLt; show _ < 16; omega⟩
/-- The ring position of a device. -/
def mz (d : Dev nD) : Fin 4 := ⟨d.val % 4, Nat.mod_lt _ (by decide)⟩

/-- A sum over a ring, taken from any of its devices backwards. -/
theorem ring_sum (d : Dev nD) (f : Dev nD → EReal) : ((f (zp (zp (zp d))) + f (zp (zp d))) + f (zp d)) + f d = ∑ z : Fin 4, f (ringAt d z) := by
  have hinj : ∀ d : Dev nD, Function.Injective (ringAt d) := by decide
  have hset : ∀ d : Dev nD, Finset.univ.image (ringAt d) = {zp (zp (zp d)), zp (zp d), zp d, d} := by decide
  have h1 : ∀ d : Dev nD, zp (zp (zp d)) ∉ ({zp (zp d), zp d, d} : Finset (Dev nD)) := by decide
  have h2 : ∀ d : Dev nD, zp (zp d) ∉ ({zp d, d} : Finset (Dev nD)) := by decide
  have h3 : ∀ d : Dev nD, zp d ∉ ({d} : Finset (Dev nD)) := by decide
  rw [← Finset.sum_image (f := f) fun a _ b _ h => hinj d h, hset, Finset.sum_insert (h1 d), Finset.sum_insert (h2 d), Finset.sum_insert (h3 d),
    Finset.sum_singleton]
  simp only [add_assoc]

/-- The device at its last step, and the three devices before it at the three steps before, all add the same block of rows. -/
theorem rowB_zp (d : Dev nD) : rowB (zp (zp (zp d))) 0 = mz d ∧ rowB (zp (zp d)) 1 = mz d ∧ rowB (zp d) 2 = mz d ∧ rowB d 3 = mz d := by
  revert d; decide

/-- The partial sum after the last step is the sum over the ring. -/
theorem acc_ring (P : Prods Ideal) (d : Dev nD) (i : Fin 512) (q : Fin 2048) :
    accN P 3 d i q = ∑ z : Fin 4, (P (ringAt d z) (ix2 (blk (mz d) i) q) : EReal) := by
  obtain ⟨h0, h1, h2, h3⟩ := rowB_zp d
  rw [← ring_sum d fun e => (P e (ix2 (blk (mz d) i) q) : EReal)]
  show ((P (zp (zp (zp d))) (ix2 (blk (rowB (zp (zp (zp d))) 0) i) q) + P (zp (zp d)) (ix2 (blk (rowB (zp (zp d)) 1) i) q) : EReal)
    + P (zp d) (ix2 (blk (rowB (zp d) 2) i) q)) + P d (ix2 (blk (rowB d 3) i) q) = _
  rw [h0, h1, h2, h3]

/-! ## The devices' products -/

/-- Column `q` of block `e` of the whole width. -/
def wide (e : Fin 4) (q : Fin 2048) : Fin 8192 := ⟨2048 * e.val + q.val, by omega⟩

/-- The product of the transposed left array and the right one, element by element. -/
theorem dot_lhsT (A B : FVec Ideal S2048x2048 .f32) (i q : Fin 2048) :
    Host.dotGeneral dot_S2048x2048_S2048x2048_S2048x2048_0_0_1_1_n_n none A B (ix2 i q) = ∑ k : Fin 2048, A (ix2 k i) * B (ix2 k q) := by
  let D := dot_S2048x2048_S2048x2048_S2048x2048_0_0_1_1_n_n
  show FloatOps.dotGeneral D none _ A B (ix2 i q) = _
  rw [Ideal.dotGeneral_apply, ← Equiv.sum_comp (contrEquiv1 D 2048 rfl rfl).symm]
  refine Finset.sum_congr rfl fun c _ => ?_
  have hc := contrEquiv1_symm_val D 2048 rfl rfl c
  have hl : D.lhsIdx (ix2 i q) ((contrEquiv1 D 2048 rfl rfl).symm c) = ix2 c i := by
    funext a; apply Fin.ext
    match a with
    | ⟨0, _⟩ => exact hc
    | ⟨1, _⟩ => rfl
  have hr : D.rhsIdx (ix2 i q) ((contrEquiv1 D 2048 rfl rfl).symm c) = ix2 c q := by
    funext a; apply Fin.ext
    match a with
    | ⟨0, _⟩ => exact hc
    | ⟨1, _⟩ => rfl
  rw [hl, hr]

variable (m : (ℓ : Loc nD τ sig) → Buf (Elt Ideal) ℓ)

/-- A block of columns lies in the whole width. -/
theorem cols_fit (e : Fin 4) : S2048x8192.Slices ![0, 2048 * e.val] S2048x2048 :=
  ⟨rfl, fun a => by
    have := e.isLt
    match a with
    | ⟨0, _⟩ => exact (by decide : 0 + 2048 ≤ 2048)
    | ⟨1, _⟩ => show 2048 * e.val + 2048 ≤ 8192; omega⟩

/-- A device's arrays after the host's operations before the slice. -/
def preVals (d : Dev nD) : Valuation τ sig (Elt Ideal) := StableHlo.after ((hostOps0 d).take 23) (V0 m d)

/-- The host's operations leave the first array alone. -/
theorem pre_arg0 (d : Dev nD) : preVals m d (Proc.devRef .tc main_arg0) = m ((d : Thread nD τ).loc main_arg0) := by
  unfold preVals
  simp only [hostOps0, List.take_succ_cons, List.take_zero]
  after_results

/-- The host's operations leave the second array alone. -/
theorem pre_arg1 (d : Dev nD) : preVals m d (Proc.devRef .tc main_arg1) = m ((d : Thread nD τ).loc main_arg1) := by
  unfold preVals
  simp only [hostOps0, List.take_succ_cons, List.take_zero]
  after_results

/-- The slice starts at row 0. -/
theorem pre_c7 (d : Dev nD) : (preVals m d (Proc.devRef .tc main_c_7) : S_.Idx → BitVec 32) = fun _ => 0#32 := by
  unfold preVals
  simp only [hostOps0, List.take_succ_cons, List.take_zero]
  after_results
  rfl

/-- The index of a device's block of columns, as the host computes it from the device's number. -/
def blockWord (w : BitVec 32) : BitVec 32 :=
  IntOp.addi (IntOp.muli 2#32 (IntOp.remui .host (IntOp.divui .host w 8#32) 2#32)) (IntOp.remui .host (IntOp.divui .host w 4#32) 2#32)

/-- The first column of a device's block, as the host computes it: a negative one would have the width added. -/
def startWord (w : BitVec 32) : BitVec 32 :=
  Scalar.select (IntOp.cmpi .slt (IntOp.muli (blockWord w) 2048#32) 0#32) (IntOp.addi (IntOp.muli (blockWord w) 2048#32) 8192#32)
    (IntOp.muli (blockWord w) 2048#32)

/-- The first column that the host computes is that of the device's block. -/
theorem start_word : ∀ d : Dev nD, startWord d.word = BitVec.ofNat 32 (2048 * (fb d).val) := by
  decide

/-- The slice starts at the first column of the device's block. -/
theorem pre_v14 (d : Dev nD) : (preVals m d (Proc.devRef .tc main_v14) : S_.Idx → BitVec 32) = fun _ => BitVec.ofNat 32 (2048 * (fb d).val) := by
  unfold preVals
  simp only [hostOps0, List.take_succ_cons, List.take_zero]
  after_results
  exact funext fun _ => start_word d

/-- The product a device enters the kernel with: of its first array, transposed, and its block of columns of the second. -/
theorem prods_eq (d : Dev nD) : prods (F := Ideal) m d = Host.dotGeneral (F := Ideal) (φ₁ := .f32) (φ₂ := .f32) dot_S2048x2048_S2048x2048_S2048x2048_0_0_1_1_n_n none
    (m ((d : Thread nD τ).loc main_arg0))
    (extractStridedSlice (s := S2048x8192) (α := Ideal .f32) S2048x2048 ![0, 2048 * (fb d).val] (m ((d : Thread nD τ).loc main_arg1)) (cols_fit (fb d))) := by
  have e : prods (F := Ideal) m d = StableHlo.after ((hostOps0 d).drop 23) (preVals m d) (Proc.devRef .tc main_v16) := by
    unfold prods preVals V1
    rw [← StableHlo.after_append, List.take_append_drop]
  rw [e]
  simp only [hostOps0, List.drop_succ_cons, List.drop_zero]
  have h0 := pre_arg0 m d; have h1 := pre_arg1 m d; have h7 := pre_c7 m d; have h14 := pre_v14 m d
  generalize preVals m d = W at h0 h1 h7 h14 ⊢
  after_results
  rw [h0, h1]
  refine congrArg (Host.dotGeneral _ _ _) ?_
  refine WordCmp.dynamicSlice_eq_extract _ _ _ _ _ _ fun a => ?_
  match a with
  | ⟨0, _⟩ => exact (congrArg BitVec.toInt (congrFun h7 _)).trans rfl
  | ⟨1, _⟩ =>
    refine (congrArg BitVec.toInt (congrFun h14 _)).trans ?_
    exact (by decide : ∀ d : Dev nD, (BitVec.ofNat 32 (2048 * (fb d).val)).toInt = ((2048 * (fb d).val : ℕ) : ℤ)) d

/-! ## The result and the whole product -/

/-- A sum over 8192 entries is the sum over the 4 blocks of the sums over each block's 2048 entries. -/
theorem sum_wide (f : Fin 8192 → EReal) : ∑ K, f K = ∑ z : Fin 4, ∑ k : Fin 2048, f (wide z k) := by
  rw [← Equiv.sum_comp (finProdFinEquiv : Fin 4 × Fin 2048 ≃ Fin 8192), Fintype.sum_prod_type]
  refine Finset.sum_congr rfl fun z _ => Finset.sum_congr rfl fun k _ => congrArg f (Fin.ext ?_)
  show k.val + 2048 * z.val = 2048 * z.val + k.val
  omega

/-- The whole product, element by element. -/
theorem dot_whole (X : FVec Ideal Cert.ReferenceIdeal.S8192x2048 .f32) (Y : FVec Ideal Cert.ReferenceIdeal.S8192x8192 .f32) (r : Fin 2048) (q : Fin 8192) :
    Host.dotGeneral Cert.ReferenceIdeal.dot_S2048x8192_S8192x8192_S2048x8192_1_0_0_1_n_n none
      (transpose Cert.ReferenceIdeal.S2048x8192 [1, 0] X Cert.ReferenceIdeal.Gen.transposes_S8192x2048_S2048x8192_1_0) Y (ix2 r q)
    = ∑ K : Fin 8192, X (ix2 K r) * Y (ix2 K q) := by
  refine (StackMember.dotGeneral_plain_apply (m := 2048) (n := 8192) (k := 8192) none _ Y r q).trans ?_
  refine Finset.sum_congr rfl fun K _ => ?_
  rw [transpose_ix2_apply]

/-- The two arrays a device starts with are its blocks of rows of the whole arrays `X` and `Y`. -/
def Blocks (X : FVec Ideal ⟨2, ![8192, 2048]⟩ .f32) (Y : FVec Ideal ⟨2, ![8192, 8192]⟩ .f32) (d : Dev nD) : Prop :=
  m ((d : Thread nD τ).loc main_arg0) = Layout.blockN ⟨2, ![2048, 2048]⟩ ⟨2, ![8192, 2048]⟩ (Layout.meshBlock [2, 2, 4] ![[2], []] d) X
  ∧ m ((d : Thread nD τ).loc main_arg1) = Layout.blockN ⟨2, ![2048, 8192]⟩ ⟨2, ![8192, 8192]⟩ (Layout.meshBlock [2, 2, 4] ![[2], []] d) Y

variable {m}
variable {X : FVec Ideal ⟨2, ![8192, 2048]⟩ .f32} {Y : FVec Ideal ⟨2, ![8192, 8192]⟩ .f32}

/-- A device's product, element by element, from the whole arrays. -/
theorem prods_at (d : Dev nD) (h : Blocks m X Y d) (i q : Fin 2048) :
    prods m d (ix2 i q) = ∑ k : Fin 2048, X (ix2 (wide (mz d) k) i) * Y (ix2 (wide (mz d) k) (wide (fb d) q)) := by
  have hm : Layout.meshLin [2, 2, 4] d.val [2] = (mz d).val := (by decide : ∀ d : Dev nD, Layout.meshLin [2, 2, 4] d.val [2] = (mz d).val) d
  rw [prods_eq, dot_lhsT, h.1, h.2]
  refine Finset.sum_congr rfl fun k _ => ?_
  rw [extractStridedSlice_apply _ _ _ _ (ix2 k (wide (fb d) q)) fun a => ?_, Layout.blockN_apply, Layout.blockN_apply]
  · congr 2
    · funext a; apply Fin.ext; rw [Layout.TilesN.idx_val]
      match a with
      | ⟨0, _⟩ => show Layout.meshLin [2, 2, 4] d.val [2] * 2048 + k.val = 2048 * (mz d).val + k.val; omega
      | ⟨1, _⟩ => show 0 * 2048 + i.val = i.val; omega
    · funext a; apply Fin.ext; rw [Layout.TilesN.idx_val]
      match a with
      | ⟨0, _⟩ => show Layout.meshLin [2, 2, 4] d.val [2] * 2048 + k.val = 2048 * (mz d).val + k.val; omega
      | ⟨1, _⟩ => show 0 * 8192 + (wide (fb d) q).val = (wide (fb d) q).val; omega
  · match a with
    | ⟨0, _⟩ => show k.val = 0 + k.val; omega
    | ⟨1, _⟩ => rfl

/-- Each device's result is its block of rows of the whole product. -/
theorem outC_eq (h : ∀ d, Blocks m X Y d) (d : Dev nD) :
    outC (prods m) d = Layout.blockN ⟨2, ![512, 8192]⟩ ⟨2, ![2048, 8192]⟩ (Layout.meshBlock [2, 2, 4] ![[2], []] d)
      (Host.dotGeneral Cert.ReferenceIdeal.dot_S2048x8192_S8192x8192_S2048x8192_1_0_0_1_n_n none
        (transpose Cert.ReferenceIdeal.S2048x8192 [1, 0] X Cert.ReferenceIdeal.Gen.transposes_S8192x2048_S2048x8192_1_0) Y) := by
  have hm : Layout.meshLin [2, 2, 4] d.val [2] = (mz d).val := (by decide : ∀ d : Dev nD, Layout.meshLin [2, 2, 4] d.val [2] = (mz d).val) d
  have hz : ∀ (d : Dev nD) (e : Fin 4), mz (at_ d e) = mz d := by decide
  have hr : ∀ (d : Dev nD) (e z : Fin 4), mz (ringAt (at_ d e) z) = z ∧ fb (ringAt (at_ d e) z) = e := by decide
  funext i
  rw [Layout.blockN_apply]
  have hi : (i 1).val < 8192 := (i 1).isLt
  let e : Fin 4 := ⟨(i 1).val / 2048, by omega⟩
  let q : Fin 2048 := ⟨(i 1).val % 2048, by omega⟩
  have hq : wide e q = i 1 := Fin.ext (show 2048 * ((i 1).val / 2048) + (i 1).val % 2048 = (i 1).val by omega)
  have hidx : Layout.TilesN.idx (by decide) (Layout.meshBlock [2, 2, 4] ![[2], []] d) i = ix2 (blk (mz d) (i 0)) (i 1) := by
    funext a; apply Fin.ext; rw [Layout.TilesN.idx_val]
    match a with
    | ⟨0, _⟩ => show Layout.meshLin [2, 2, 4] d.val [2] * 512 + (i 0).val = 512 * (mz d).val + (i 0).val; omega
    | ⟨1, _⟩ => show 0 * 8192 + (i 1).val = (i 1).val; omega
  refine Eq.trans ?_ (congrArg (Host.dotGeneral (F := Ideal) _ _ _ _) hidx).symm
  refine (acc_ring (prods m) (at_ d e) (i 0) q).trans (((dot_whole X Y _ _).trans (sum_wide _)).trans ?_).symm
  refine Finset.sum_congr rfl fun z _ => ?_
  refine ((prods_at (ringAt (at_ d e) z) (h _) _ _).trans ?_).symm
  rw [hz, (hr d e z).1, (hr d e z).2, hq]

end Cert.KernelIdeal.Rs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Values
public import proofs.«01_k».proof.Proof.Printed.Launch
public import Idealize.ShloMosaic.Adequacy
public import Idealize.ShloMosaic.Init

@[expose] public section

noncomputable section

namespace Cert.Proof

open Idealize.ShloMosaic Idealize.SL.Sem

/-- Every run of the program as printed ends, with the arguments unchanged and every semaphore counter at zero. -/
theorem quiet_printed : Cert.quiescent_Kernel (hKernel := Cert.Kernel.Gen.facts) := fun m ρ _ =>
  (θ_run _ _ _).mono (fun _ h => ⟨fun c => ⟨(h.1 c).1, (h.1 c).2.1⟩, h.2⟩) (Cert.Kernel.Rs.run (F := Bits) m ρ)

/-- Every run of the program at the ideal values ends, with the arguments unchanged and every semaphore counter at zero. -/
theorem quiet_ideal : Cert.quiescent_KernelIdeal (hKernelIdeal := Cert.KernelIdeal.Gen.facts) := fun m ρ _ =>
  (θ_run _ _ _).mono (fun _ h => ⟨fun c => ⟨(h.1 c).1, (h.1 c).2.1⟩, h.2⟩) (Cert.KernelIdeal.Rs.run (F := Ideal) m ρ)

/-- Every run of the reference ends, with the arguments unchanged and every semaphore counter at zero. -/
theorem quiet_reference : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- From arrays that are blocks of the reference's, every device ends with its block of rows of the reference's product. -/
theorem value : Cert.algebraic_KernelIdeal_ReferenceIdeal (hKernelIdeal := Cert.KernelIdeal.Gen.facts)
    (hReferenceIdeal := Cert.ReferenceIdeal.Gen.facts) := fun m ρ m' ρ' _ h =>
  ⟨_, (θ_run _ _ _).mono (fun _ hr c => ⟨(hr.1 c).2.2.trans (Cert.KernelIdeal.Rs.outC_eq h c), (hr.1 c).1, (hr.1 c).2.1⟩)
      (Cert.KernelIdeal.Rs.run (F := Ideal) m ρ),
    (θ_run _ _ _).mono (fun _ hr => hr 0) (Cert.ReferenceIdeal.Value.run (F := Ideal) m' ρ')⟩

theorem claim : Cert.Claim :=
  ⟨Cert.Kernel.Gen.facts, Cert.KernelIdeal.Gen.facts, Cert.ReferenceIdeal.Gen.facts, quiet_printed, quiet_ideal, quiet_reference,
    trivial, value⟩

end Cert.Proof

end
